-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)) →
    ∃ (v0 : (c : Dev Cert.KernelIdeal.nD) → Buf (Elt Ideal) ((c.tc : Thread Cert.KernelIdeal.nD Cert.KernelIdeal.τ).loc Cert.KernelIdeal.main_v24_0)) (v1 : (c : Dev Cert.KernelIdeal.nD) → Buf (Elt Ideal) ((c.tc : Thread Cert.KernelIdeal.nD Cert.KernelIdeal.τ).loc Cert.KernelIdeal.main_v24_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24_0) = v0 c
          ∧ r.2.mem ((c.tc : Thread Cert.KernelIdeal.nD Cert.KernelIdeal.τ).loc Cert.KernelIdeal.main_v24_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v196) = v0 c
          ∧ r.2.mem ((c.tc : Thread Cert.ReferenceIdeal.nD Cert.ReferenceIdeal.τ).loc Cert.ReferenceIdeal.main_v144) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x64 : Shape := ⟨2, ![4096, 64]⟩
abbrev S4096x4096 : Shape := ⟨2, ![4096, 4096]⟩
abbrev S3x64x64 : Shape := ⟨3, ![3, 64, 64]⟩
abbrev S64 : Shape := ⟨1, ![64]⟩
abbrev S1x64 : Shape := ⟨2, ![1, 64]⟩
abbrev S4096x128 : Shape := ⟨2, ![4096, 128]⟩
abbrev S128x4096 : Shape := ⟨2, ![128, 4096]⟩
abbrev S3x64x256 : Shape := ⟨3, ![3, 64, 256]⟩
abbrev S3x128x256 : Shape := ⟨3, ![3, 128, 256]⟩
abbrev S3x256x128 : Shape := ⟨3, ![3, 256, 128]⟩
abbrev S1x256 : Shape := ⟨2, ![1, 256]⟩
abbrev S256x1 : Shape := ⟨2, ![256, 1]⟩
abbrev S64x4096 : Shape := ⟨2, ![64, 4096]⟩
abbrev S64x1 : Shape := ⟨2, ![64, 1]⟩
abbrev S256x4096 : Shape := ⟨2, ![256, 4096]⟩
abbrev S512x64 : Shape := ⟨2, ![512, 64]⟩
abbrev S4096x256 : Shape := ⟨2, ![4096, 256]⟩
abbrev S4096x512 : Shape := ⟨2, ![4096, 512]⟩
abbrev S128x512 : Shape := ⟨2, ![128, 512]⟩
abbrev S1x256x128 : Shape := ⟨3, ![1, 256, 128]⟩
abbrev S256x128 : Shape := ⟨2, ![256, 128]⟩
abbrev S256x512 : Shape := ⟨2, ![256, 512]⟩
abbrev S64x512 : Shape := ⟨2, ![64, 512]⟩

abbrev nBuf : Space → Nat
  | .hbm => 53
  | .vmem => 16
  | .smem => 0
  | _ => 0

abbrev bufTy : (tb : Table) → Fin (tcTables nBuf tb) → BufTy
  | .hbm, ⟨0, _⟩ => ⟨S4096x64, .f32⟩
  | .hbm, ⟨1, _⟩ => ⟨S4096x4096, .f32⟩
  | .hbm, ⟨2, _⟩ => ⟨S4096x64, .f32⟩
  | .hbm, ⟨3, _⟩ => ⟨S4096x64, .f32⟩
  | .hbm, ⟨4, _⟩ => ⟨S3x64x64, .f32⟩
  | .hbm, ⟨5, _⟩ => ⟨S64, .f32⟩
  | .hbm, ⟨6, _⟩ => ⟨S3x64x64, .f32⟩
  | .hbm, ⟨7, _⟩ => ⟨S64, .f32⟩
  | .hbm, ⟨8, _⟩ => ⟨S3x64x64, .f32⟩
  | .hbm, ⟨9, _⟩ => ⟨S64, .f32⟩
  | .hbm, ⟨10, _⟩ => ⟨S3x64x64, .f32⟩
  | .hbm, ⟨11, _⟩ => ⟨S64, .f32⟩
  | .hbm, ⟨12, _⟩ => ⟨S3x64x64, .f32⟩
  | .hbm, ⟨13, _⟩ => ⟨S64, .f32⟩
  | .hbm, ⟨14, _⟩ => ⟨S3x64x64, .f32⟩
  | .hbm, ⟨15, _⟩ => ⟨S64, .f32⟩
  | .hbm, ⟨16, _⟩ => ⟨S3x64x64, .f32⟩
  | .hbm, ⟨17, _⟩ => ⟨S64, .f32⟩
  | .hbm, ⟨18, _⟩ => ⟨S3x64x64, .f32⟩
  | .hbm, ⟨19, _⟩ => ⟨S64, .f32⟩
  | .hbm, ⟨20, _⟩ => ⟨S1x64, .f32⟩
  | .hbm, ⟨21, _⟩ => ⟨S1x64, .f32⟩
  | .hbm, ⟨22, _⟩ => ⟨S1x64, .f32⟩
  | .hbm, ⟨23, _⟩ => ⟨S1x64, .f32⟩
  | .hbm, ⟨24, _⟩ => ⟨S1x64, .f32⟩
  | .hbm, ⟨25, _⟩ => ⟨S1x64, .f32⟩
  | .hbm, ⟨26, _⟩ => ⟨S1x64, .f32⟩
  | .hbm, ⟨27, _⟩ => ⟨S4096x128, .f32⟩
  | .hbm, ⟨28, _⟩ => ⟨S128x4096, .f32⟩
  | .hbm, ⟨29, _⟩ => ⟨S3x64x256, .f32⟩
  | .hbm, ⟨30, _⟩ => ⟨S3x64x256, .f32⟩
  | .hbm, ⟨31, _⟩ => ⟨S3x128x256, .f32⟩
  | .hbm, ⟨32, _⟩ => ⟨S3x256x128, .f32⟩
  | .hbm, ⟨33, _⟩ => ⟨S64, .f32⟩
  | .hbm, ⟨34, _⟩ => ⟨S1x64, .f32⟩
  | .hbm, ⟨35, _⟩ => ⟨S1x64, .f32⟩
  | .hbm, ⟨36, _⟩ => ⟨S64, .f32⟩
  | .hbm, ⟨37, _⟩ => ⟨S1x64, .f32⟩
  | .hbm, ⟨38, _⟩ => ⟨S1x64, .f32⟩
  | .hbm, ⟨39, _⟩ => ⟨S64, .f32⟩
  | .hbm, ⟨40, _⟩ => ⟨S1x64, .f32⟩
  | .hbm, ⟨41, _⟩ => ⟨S1x64, .f32⟩
  | .hbm, ⟨42, _⟩ => ⟨S64, .f32⟩
  | .hbm, ⟨43, _⟩ => ⟨S1x64, .f32⟩
  | .hbm, ⟨44, _⟩ => ⟨S1x64, .f32⟩
  | .hbm, ⟨45, _⟩ => ⟨S1x256, .f32⟩
  | .hbm, ⟨46, _⟩ => ⟨S256x1, .f32⟩
  | .hbm, ⟨47, _⟩ => ⟨S64x4096, .f32⟩
  | .hbm, ⟨48, _⟩ => ⟨S64x1, .f32⟩
  | .hbm, ⟨49, _⟩ => ⟨S64x1, .f32⟩
  | .hbm, ⟨50, _⟩ => ⟨S64x1, .f32⟩
  | .hbm, ⟨51, _⟩ => ⟨S4096x64, .f32⟩
  | .hbm, ⟨52, _⟩ => ⟨S4096x64, .f32⟩
  | .local _ .vmem, ⟨0, _⟩ => ⟨S256x4096, .f32⟩
  | .local _ .vmem, ⟨1, _⟩ => ⟨S256x4096, .f32⟩
  | .local _ .vmem, ⟨2, _⟩ => ⟨S128x4096, .f32⟩
  | .local _ .vmem, ⟨3, _⟩ => ⟨S64x4096, .f32⟩
  | .local _ .vmem, ⟨4, _⟩ => ⟨S3x256x128, .f32⟩
  | .local _ .vmem, ⟨5, _⟩ => ⟨S256x1, .f32⟩
  | .local _ .vmem, ⟨6, _⟩ => ⟨S64x1, .f32⟩
  | .local _ .vmem, ⟨7, _⟩ => ⟨S64x1, .f32⟩
  | .local _ .vmem, ⟨8, _⟩ => ⟨S64x1, .f32⟩
  | .local _ .vmem, ⟨9, _⟩ => ⟨S512x64, .f32⟩
  | .local _ .vmem, ⟨10, _⟩ => ⟨S512x64, .f32⟩
  | .local _ .vmem, ⟨11, _⟩ => ⟨S512x64, .f32⟩
  | .local _ .vmem, ⟨12, _⟩ => ⟨S512x64, .f32⟩
  | .local _ .vmem, ⟨13, _⟩ => ⟨S4096x4096, .bf16⟩
  | .local _ .vmem, ⟨14, _⟩ => ⟨S128x4096, .bf16⟩
  | .local _ .vmem, ⟨15, _⟩ => ⟨S128x4096, .bf16⟩
  | _, _ => ⟨S4096x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_v0 : Ref sig .tc := ⟨.hbm, 27, rfl⟩
abbrev main_v1 : Ref sig .tc := ⟨.hbm, 28, rfl⟩
abbrev main_v2 : Ref sig .tc := ⟨.hbm, 29, rfl⟩
abbrev main_v3 : Ref sig .tc := ⟨.hbm, 30, rfl⟩
abbrev main_v4 : Ref sig .tc := ⟨.hbm, 31, rfl⟩
abbrev main_v5 : Ref sig .tc := ⟨.hbm, 32, rfl⟩
abbrev main_v6 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24_0 : Ref sig .tc := ⟨.hbm, 51, rfl⟩
abbrev main_v24_1 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg9_0 : Ref sig .tc := ⟨.vmem, 11, rfl⟩
abbrev cc0_stg9_1 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10
abbrev cc0_sem9_0 : DmaSem sig := 11
abbrev cc0_sem9_1 : DmaSem sig := 12

abbrev nD : Nat := 1
abbrev τ : Topo := Topo.v7x

variable {F : FTy → Type} [FloatOps F]

abbrev grid0 : Pipeline.Grid := ⟨1, ![32], ![false]⟩

def k0_cond2 (i : grid0.Coords) : BitVec 1 :=
  let arg0 : BitVec 32 := BitVec.ofNat 32 (i 0).val
  let c16_i32 : BitVec 32 := 16#32
  let v3 : BitVec 1 := Scalar.cmpi .slt arg0 c16_i32
  let v4 : BitVec 32 := Scalar.extui v3
  let c0_i32_1 : BitVec 32 := 0#32
  let v5 : BitVec 1 := Scalar.cmpi .ne v4 c0_i32_1
  v5

def k0_off1 (i : grid0.Coords) : Fin 2 → Nat :=
  let c0_7 : Index := 0#32
  let arg0 : BitVec 32 := BitVec.ofNat 32 (i 0).val
  let c256_i32 : BitVec 32 := 256#32
  let v14 : BitVec 32 := Scalar.muli arg0 c256_i32
  let v18 : Index := Scalar.indexCast v14
  ![0, v18.toNat]
def k0_cond3 (i : grid0.Coords) : BitVec 1 :=
  let arg0 : BitVec 32 := BitVec.ofNat 32 (i 0).val
  let c16_i32_2 : BitVec 32 := 16#32
  let v6 : BitVec 1 := Scalar.cmpi .sge arg0 c16_i32_2
  let c24_i32 : BitVec 32 := 24#32
  let v7 : BitVec 1 := Scalar.cmpi .slt arg0 c24_i32
  let v8 : BitVec 1 := Scalar.andi v6 v7
  let v9 : BitVec 32 := Scalar.extui v8
  let c0_i32_3 : BitVec 32 := 0#32
  let v10 : BitVec 1 := Scalar.cmpi .ne v9 c0_i32_3
  v10

def k0_off2 (i : grid0.Coords) : Fin 2 → Nat :=
  let c0_8 : Index := 0#32
  let arg0 : BitVec 32 := BitVec.ofNat 32 (i 0).val
  let c16_i32_6 : BitVec 32 := 16#32
  let v14 : BitVec 32 := Scalar.subi arg0 c16_i32_6
  let c512_i32 : BitVec 32 := 512#32
  let v15 : BitVec 32 := Scalar.muli v14 c512_i32
  let v17 : Index := Scalar.indexCast v15
  ![0, v17.toNat]
def k0_off3 (i : grid0.Coords) : Fin 2 → Nat :=
  let c0_9 : Index := 0#32
  let arg0 : BitVec 32 := BitVec.ofNat 32 (i 0).val
  let c16_i32_6 : BitVec 32 := 16#32
  let v14 : BitVec 32 := Scalar.subi arg0 c16_i32_6
  let c512_i32 : BitVec 32 := 512#32
  let v15 : BitVec 32 := Scalar.muli v14 c512_i32
  let v21 : Index := Scalar.indexCast v15
  ![0, v21.toNat]
def k0_cond4 (i : grid0.Coords) : BitVec 1 :=
  let arg0 : BitVec 32 := BitVec.ofNat 32 (i 0).val
  let c24_i32_4 : BitVec 32 := 24#32
  let v11 : BitVec 1 := Scalar.cmpi .sge arg0 c24_i32_4
  let v12 : BitVec 32 := Scalar.extui v11
  let c0_i32_5 : BitVec 32 := 0#32
  let v13 : BitVec 1 := Scalar.cmpi .ne v12 c0_i32_5
  v13

def k0_off4 (i : grid0.Coords) : Fin 2 → Nat :=
  let c0_8 : Index := 0#32
  let arg0 : BitVec 32 := BitVec.ofNat 32 (i 0).val
  let c16_i32_6 : BitVec 32 := 16#32
  let v14 : BitVec 32 := Scalar.subi arg0 c16_i32_6
  let c8_i32 : BitVec 32 := 8#32
  let v15 : BitVec 32 := Scalar.subi v14 c8_i32
  let c512_i32 : BitVec 32 := 512#32
  let v16 : BitVec 32 := Scalar.muli v15 c512_i32
  let v18 : Index := Scalar.indexCast v16
  ![0, v18.toNat]
def k0_off5 (i : grid0.Coords) : Fin 2 → Nat :=
  let c0_9 : Index := 0#32
  let arg0 : BitVec 32 := BitVec.ofNat 32 (i 0).val
  let c16_i32_6 : BitVec 32 := 16#32
  let v14 : BitVec 32 := Scalar.subi arg0 c16_i32_6
  let c8_i32 : BitVec 32 := 8#32
  let v15 : BitVec 32 := Scalar.subi v14 c8_i32
  let c512_i32 : BitVec 32 := 512#32
  let v16 : BitVec 32 := Scalar.muli v15 c512_i32
  let v21 : Index := Scalar.indexCast v16
  ![0, v21.toNat]
def k0_off6 (i : grid0.Coords) : Fin 2 → Nat :=
  let c0_21 : Index := 0#32
  let arg0 : BitVec 32 := BitVec.ofNat 32 (i 0).val
  let c16_i32_6 : BitVec 32 := 16#32
  let v14 : BitVec 32 := Scalar.subi arg0 c16_i32_6
  let c8_i32 : BitVec 32 := 8#32
  let v15 : BitVec 32 := Scalar.subi v14 c8_i32
  let c512_i32 : BitVec 32 := 512#32
  let v16 : BitVec 32 := Scalar.muli v15 c512_i32
  let v52 : Index := Scalar.indexCast v16
  ![0, v52.toNat]
def cc0_transform_0 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c16_i32 : BitVec 32 := 16#32
  let v0 : BitVec 32 := Scalar.subi arg0 c16_i32
  let c8_i32 : BitVec 32 := 8#32
  let v1 : BitVec 32 := Scalar.subi v0 c8_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_9 (i : grid0.Coords) : Fin 2 → Nat :=
  let arg0 : BitVec 32 := BitVec.ofNat 32 (i 0).val
  let c16_i32 : BitVec 32 := 16#32
  let v0 : BitVec 32 := Scalar.subi arg0 c16_i32
  let c8_i32 : BitVec 32 := 8#32
  let v1 : BitVec 32 := Scalar.subi v0 c8_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S3x256x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x64 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x64 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== ReferenceIdeal.lean ====
abbrev S4096x64 : Shape := ⟨2, ![4096, 64]⟩
abbrev S4096x4096 : Shape := ⟨2, ![4096, 4096]⟩
abbrev S3x64x64 : Shape := ⟨3, ![3, 64, 64]⟩
abbrev S64 : Shape := ⟨1, ![64]⟩
abbrev S1x64 : Shape := ⟨2, ![1, 64]⟩
abbrev S1x64x64 : Shape := ⟨3, ![1, 64, 64]⟩
abbrev S64x64 : Shape := ⟨2, ![64, 64]⟩
abbrev S_ : Shape := ⟨0, ![]⟩

abbrev nBuf : Space → Nat
  | .hbm => 238
  | .vmem => 0
  | .smem => 0
  | _ => 0

abbrev hbmTy0_0 (i : Nat) : BufTy := match i % 128 with
  | 0 => ⟨S4096x64, .f32⟩
  | 1 => ⟨S4096x4096, .f32⟩
  | 2 => ⟨S4096x64, .f32⟩
  | 3 => ⟨S4096x64, .f32⟩
  | 4 => ⟨S3x64x64, .f32⟩
  | 5 => ⟨S64, .f32⟩
  | 6 => ⟨S3x64x64, .f32⟩
  | 7 => ⟨S64, .f32⟩
  | 8 => ⟨S3x64x64, .f32⟩
  | 9 => ⟨S64, .f32⟩
  | 10 => ⟨S3x64x64, .f32⟩
  | 11 => ⟨S64, .f32⟩
  | 12 => ⟨S3x64x64, .f32⟩
  | 13 => ⟨S64, .f32⟩
  | 14 => ⟨S3x64x64, .f32⟩
  | 15 => ⟨S64, .f32⟩
  | 16 => ⟨S3x64x64, .f32⟩
  | 17 => ⟨S64, .f32⟩
  | 18 => ⟨S3x64x64, .f32⟩
  | 19 => ⟨S64, .f32⟩
  | 20 => ⟨S1x64, .f32⟩
  | 21 => ⟨S1x64, .f32⟩
  | 22 => ⟨S1x64, .f32⟩
  | 23 => ⟨S1x64, .f32⟩
  | 24 => ⟨S1x64, .f32⟩
  | 25 => ⟨S1x64, .f32⟩
  | 26 => ⟨S1x64, .f32⟩
  | 27 => ⟨S1x64x64, .f32⟩
  | 28 => ⟨S64x64, .f32⟩
  | 29 => ⟨S4096x64, .f32⟩
  | 30 => ⟨S4096x64, .f32⟩
  | 31 => ⟨S1x64x64, .f32⟩
  | 32 => ⟨S64x64, .f32⟩
  | 33 => ⟨S4096x64, .f32⟩
  | 34 => ⟨S4096x64, .f32⟩
  | 35 => ⟨S4096x64, .f32⟩
  | 36 => ⟨S_, .f32⟩
  | 37 => ⟨S4096x64, .f32⟩
  | 38 => ⟨S4096x64, .f32⟩
  | 39 => ⟨S4096x64, .f32⟩
  | 40 => ⟨S1x64x64, .f32⟩
  | 41 => ⟨S64x64, .f32⟩
  | 42 => ⟨S4096x64, .f32⟩
  | 43 => ⟨S4096x64, .f32⟩
  | 44 => ⟨S1x64, .f32⟩
  | 45 => ⟨S4096x64, .f32⟩
  | 46 => ⟨S4096x64, .f32⟩
  | 47 => ⟨S1x64x64, .f32⟩
  | 48 => ⟨S64x64, .f32⟩
  | 49 => ⟨S4096x64, .f32⟩
  | 50 => ⟨S4096x64, .f32⟩
  | 51 => ⟨S1x64x64, .f32⟩
  | 52 => ⟨S64x64, .f32⟩
  | 53 => ⟨S4096x64, .f32⟩
  | 54 => ⟨S4096x64, .f32⟩
  | 55 => ⟨S4096x64, .f32⟩
  | 56 => ⟨S_, .f32⟩
  | 57 => ⟨S4096x64, .f32⟩
  | 58 => ⟨S4096x64, .f32⟩
  | 59 => ⟨S4096x64, .f32⟩
  | 60 => ⟨S1x64x64, .f32⟩
  | 61 => ⟨S64x64, .f32⟩
  | 62 => ⟨S4096x64, .f32⟩
  | 63 => ⟨S4096x64, .f32⟩
  | 64 => ⟨S1x64, .f32⟩
  | 65 => ⟨S4096x64, .f32⟩
  | 66 => ⟨S4096x64, .f32⟩
  | 67 => ⟨S4096x64, .f32⟩
  | 68 => ⟨S4096x64, .f32⟩
  | 69 => ⟨S4096x64, .f32⟩
  | 70 => ⟨S4096x64, .f32⟩
  | 71 => ⟨S4096x64, .f32⟩
  | 72 => ⟨S4096x64, .f32⟩
  | 73 => ⟨S4096x64, .f32⟩
  | 74 => ⟨S4096x64, .f32⟩
  | 75 => ⟨S_, .f32⟩
  | 76 => ⟨S4096x64, .f32⟩
  | 77 => ⟨S4096x64, .f32⟩
  | 78 => ⟨S_, .f32⟩
  | 79 => ⟨S4096x64, .f32⟩
  | 80 => ⟨S4096x64, .f32⟩
  | 81 => ⟨S1x64x64, .f32⟩
  | 82 => ⟨S64x64, .f32⟩
  | 83 => ⟨S4096x64, .f32⟩
  | 84 => ⟨S4096x64, .f32⟩
  | 85 => ⟨S1x64x64, .f32⟩
  | 86 => ⟨S64x64, .f32⟩
  | 87 => ⟨S4096x64, .f32⟩
  | 88 => ⟨S4096x64, .f32⟩
  | 89 => ⟨S4096x64, .f32⟩
  | 90 => ⟨S_, .f32⟩
  | 91 => ⟨S4096x64, .f32⟩
  | 92 => ⟨S4096x64, .f32⟩
  | 93 => ⟨S4096x64, .f32⟩
  | 94 => ⟨S1x64x64, .f32⟩
  | 95 => ⟨S64x64, .f32⟩
  | 96 => ⟨S4096x64, .f32⟩
  | 97 => ⟨S4096x64, .f32⟩
  | 98 => ⟨S1x64, .f32⟩
  | 99 => ⟨S4096x64, .f32⟩
  | 100 => ⟨S4096x64, .f32⟩
  | 101 => ⟨S1x64x64, .f32⟩
  | 102 => ⟨S64x64, .f32⟩
  | 103 => ⟨S4096x64, .f32⟩
  | 104 => ⟨S4096x64, .f32⟩
  | 105 => ⟨S1x64x64, .f32⟩
  | 106 => ⟨S64x64, .f32⟩
  | 107 => ⟨S4096x64, .f32⟩
  | 108 => ⟨S4096x64, .f32⟩
  | 109 => ⟨S4096x64, .f32⟩
  | 110 => ⟨S_, .f32⟩
  | 111 => ⟨S4096x64, .f32⟩
  | 112 => ⟨S4096x64, .f32⟩
  | 113 => ⟨S4096x64, .f32⟩
  | 114 => ⟨S1x64x64, .f32⟩
  | 115 => ⟨S64x64, .f32⟩
  | 116 => ⟨S4096x64, .f32⟩
  | 117 => ⟨S4096x64, .f32⟩
  | 118 => ⟨S1x64, .f32⟩
  | 119 => ⟨S4096x64, .f32⟩
  | 120 => ⟨S4096x64, .f32⟩
  | 121 => ⟨S4096x64, .f32⟩
  | 122 => ⟨S4096x64, .f32⟩
  | 123 => ⟨S4096x64, .f32⟩
  | 124 => ⟨S4096x64, .f32⟩
  | 125 => ⟨S4096x64, .f32⟩
  | 126 => ⟨S4096x64, .f32⟩
  | 127 => ⟨S4096x64, .f32⟩
  | _ => ⟨S4096x64, .f32⟩

abbrev hbmTy0_1 (i : Nat) : BufTy := match i % 128 with
  | 0 => ⟨S4096x64, .f32⟩
  | 1 => ⟨S_, .f32⟩
  | 2 => ⟨S4096x64, .f32⟩
  | 3 => ⟨S4096x64, .f32⟩
  | 4 => ⟨S_, .f32⟩
  | 5 => ⟨S4096x64, .f32⟩
  | 6 => ⟨S4096x64, .f32⟩
  | 7 => ⟨S1x64x64, .f32⟩
  | 8 => ⟨S64x64, .f32⟩
  | 9 => ⟨S4096x64, .f32⟩
  | 10 => ⟨S4096x64, .f32⟩
  | 11 => ⟨S1x64x64, .f32⟩
  | 12 => ⟨S64x64, .f32⟩
  | 13 => ⟨S4096x64, .f32⟩
  | 14 => ⟨S4096x64, .f32⟩
  | 15 => ⟨S4096x64, .f32⟩
  | 16 => ⟨S_, .f32⟩
  | 17 => ⟨S4096x64, .f32⟩
  | 18 => ⟨S4096x64, .f32⟩
  | 19 => ⟨S4096x64, .f32⟩
  | 20 => ⟨S1x64x64, .f32⟩
  | 21 => ⟨S64x64, .f32⟩
  | 22 => ⟨S4096x64, .f32⟩
  | 23 => ⟨S4096x64, .f32⟩
  | 24 => ⟨S1x64, .f32⟩
  | 25 => ⟨S4096x64, .f32⟩
  | 26 => ⟨S4096x64, .f32⟩
  | 27 => ⟨S1x64x64, .f32⟩
  | 28 => ⟨S64x64, .f32⟩
  | 29 => ⟨S4096x64, .f32⟩
  | 30 => ⟨S4096x64, .f32⟩
  | 31 => ⟨S1x64x64, .f32⟩
  | 32 => ⟨S64x64, .f32⟩
  | 33 => ⟨S4096x64, .f32⟩
  | 34 => ⟨S4096x64, .f32⟩
  | 35 => ⟨S4096x64, .f32⟩
  | 36 => ⟨S_, .f32⟩
  | 37 => ⟨S4096x64, .f32⟩
  | 38 => ⟨S4096x64, .f32⟩
  | 39 => ⟨S4096x64, .f32⟩
  | 40 => ⟨S1x64x64, .f32⟩
  | 41 => ⟨S64x64, .f32⟩
  | 42 => ⟨S4096x64, .f32⟩
  | 43 => ⟨S4096x64, .f32⟩
  | 44 => ⟨S1x64, .f32⟩
  | 45 => ⟨S4096x64, .f32⟩
  | 46 => ⟨S4096x64, .f32⟩
  | 47 => ⟨S4096x64, .f32⟩
  | 48 => ⟨S4096x64, .f32⟩
  | 49 => ⟨S4096x64, .f32⟩
  | 50 => ⟨S4096x64, .f32⟩
  | 51 => ⟨S4096x64, .f32⟩
  | 52 => ⟨S4096x64, .f32⟩
  | 53 => ⟨S4096x64, .f32⟩
  | 54 => ⟨S1x64x64, .f32⟩
  | 55 => ⟨S64x64, .f32⟩
  | 56 => ⟨S4096x64, .f32⟩
  | 57 => ⟨S4096x64, .f32⟩
  | 58 => ⟨S1x64x64, .f32⟩
  | 59 => ⟨S64x64, .f32⟩
  | 60 => ⟨S4096x64, .f32⟩
  | 61 => ⟨S4096x64, .f32⟩
  | 62 => ⟨S4096x64, .f32⟩
  | 63 => ⟨S_, .f32⟩
  | 64 => ⟨S4096x64, .f32⟩
  | 65 => ⟨S4096x64, .f32⟩
  | 66 => ⟨S4096x64, .f32⟩
  | 67 => ⟨S1x64x64, .f32⟩
  | 68 => ⟨S64x64, .f32⟩
  | 69 => ⟨S4096x64, .f32⟩
  | 70 => ⟨S4096x64, .f32⟩
  | 71 => ⟨S1x64, .f32⟩
  | 72 => ⟨S4096x64, .f32⟩
  | 73 => ⟨S4096x64, .f32⟩
  | 74 => ⟨S1x64x64, .f32⟩
  | 75 => ⟨S64x64, .f32⟩
  | 76 => ⟨S4096x64, .f32⟩
  | 77 => ⟨S4096x64, .f32⟩
  | 78 => ⟨S1x64x64, .f32⟩
  | 79 => ⟨S64x64, .f32⟩
  | 80 => ⟨S4096x64, .f32⟩
  | 81 => ⟨S4096x64, .f32⟩
  | 82 => ⟨S4096x64, .f32⟩
  | 83 => ⟨S_, .f32⟩
  | 84 => ⟨S4096x64, .f32⟩
  | 85 => ⟨S4096x64, .f32⟩
  | 86 => ⟨S4096x64, .f32⟩
  | 87 => ⟨S1x64x64, .f32⟩
  | 88 => ⟨S64x64, .f32⟩
  | 89 => ⟨S4096x64, .f32⟩
  | 90 => ⟨S4096x64, .f32⟩
  | 91 => ⟨S1x64, .f32⟩
  | 92 => ⟨S4096x64, .f32⟩
  | 93 => ⟨S4096x64, .f32⟩
  | 94 => ⟨S4096x64, .f32⟩
  | 95 => ⟨S4096x64, .f32⟩
  | 96 => ⟨S4096x64, .f32⟩
  | 97 => ⟨S4096x64, .f32⟩
  | 98 => ⟨S4096x64, .f32⟩
  | 99 => ⟨S4096x64, .f32⟩
  | 100 => ⟨S4096x64, .f32⟩
  | 101 => ⟨S4096x64, .f32⟩
  | 102 => ⟨S_, .f32⟩
  | 103 => ⟨S4096x64, .f32⟩
  | 104 => ⟨S4096x64, .f32⟩
  | 105 => ⟨S_, .f32⟩
  | 106 => ⟨S4096x64, .f32⟩
  | 107 => ⟨S4096x64, .f32⟩
  | 108 => ⟨S4096x64, .f32⟩
  | 109 => ⟨S4096x64, .f32⟩
  | _ => ⟨S4096x64, .f32⟩

abbrev hbmTy (i : Nat) : BufTy := match i / 128 with
  | 0 => hbmTy0_0 i
  | 1 => hbmTy0_1 i
  | _ => ⟨S4096x64, .f32⟩

abbrev bufTy : (tb : Table) → Fin (tcTables nBuf tb) → BufTy
  | .hbm, ⟨i, _⟩ => hbmTy i
  | _, _ => ⟨S4096x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_v0 : Ref sig .tc := ⟨.hbm, 27, rfl⟩
abbrev main_v1 : Ref sig .tc := ⟨.hbm, 28, rfl⟩
abbrev main_v2 : Ref sig .tc := ⟨.hbm, 29, rfl⟩
abbrev main_v3 : Ref sig .tc := ⟨.hbm, 30, rfl⟩
abbrev main_v4 : Ref sig .tc := ⟨.hbm, 31, rfl⟩
abbrev main_v5 : Ref sig .tc := ⟨.hbm, 32, rfl⟩
abbrev main_v6 : Ref sig .tc := ⟨.hbm, 33, rfl⟩
abbrev main_v7 : Ref sig .tc := ⟨.hbm, 34, rfl⟩
abbrev main_v8 : Ref sig .tc := ⟨.hbm, 35, rfl⟩
abbrev main_cst : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_cst_0 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_cst_1 : Ref sig .tc := ⟨.hbm, 75, rfl⟩
abbrev main_v46 : Ref sig .tc := ⟨.hbm, 76, rfl⟩
abbrev main_v47 : Ref sig .tc := ⟨.hbm, 77, rfl⟩
abbrev main_cst_2 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_cst_3 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_cst_4 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_cst_5 : Ref sig .tc := ⟨.hbm, 129, rfl⟩
abbrev main_v96 : Ref sig .tc := ⟨.hbm, 130, rfl⟩
abbrev main_v97 : Ref sig .tc := ⟨.hbm, 131, rfl⟩
abbrev main_cst_6 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩
abbrev main_v107 : Ref sig .tc := ⟨.hbm, 142, rfl⟩
abbrev main_v108 : Ref sig .tc := ⟨.hbm, 143, rfl⟩
abbrev main_cst_7 : Ref sig .tc := ⟨.hbm, 144, rfl⟩
abbrev main_v109 : Ref sig .tc := ⟨.hbm, 145, rfl⟩
abbrev main_v110 : Ref sig .tc := ⟨.hbm, 146, rfl⟩
abbrev main_v111 : Ref sig .tc := ⟨.hbm, 147, rfl⟩
abbrev main_v112 : Ref sig .tc := ⟨.hbm, 148, rfl⟩
abbrev main_v113 : Ref sig .tc := ⟨.hbm, 149, rfl⟩
abbrev main_v114 : Ref sig .tc := ⟨.hbm, 150, rfl⟩
abbrev main_v115 : Ref sig .tc := ⟨.hbm, 151, rfl⟩
abbrev main_v116 : Ref sig .tc := ⟨.hbm, 152, rfl⟩
abbrev main_v117 : Ref sig .tc := ⟨.hbm, 153, rfl⟩
abbrev main_v118 : Ref sig .tc := ⟨.hbm, 154, rfl⟩
abbrev main_v119 : Ref sig .tc := ⟨.hbm, 155, rfl⟩
abbrev main_v120 : Ref sig .tc := ⟨.hbm, 156, rfl⟩
abbrev main_v121 : Ref sig .tc := ⟨.hbm, 157, rfl⟩
abbrev main_v122 : Ref sig .tc := ⟨.hbm, 158, rfl⟩
abbrev main_v123 : Ref sig .tc := ⟨.hbm, 159, rfl⟩
abbrev main_v124 : Ref sig .tc := ⟨.hbm, 160, rfl⟩
abbrev main_v125 : Ref sig .tc := ⟨.hbm, 161, rfl⟩
abbrev main_v126 : Ref sig .tc := ⟨.hbm, 162, rfl⟩
abbrev main_v127 : Ref sig .tc := ⟨.hbm, 163, rfl⟩
abbrev main_cst_8 : Ref sig .tc := ⟨.hbm, 164, rfl⟩
abbrev main_v128 : Ref sig .tc := ⟨.hbm, 165, rfl⟩
abbrev main_v129 : Ref sig .tc := ⟨.hbm, 166, rfl⟩
abbrev main_v130 : Ref sig .tc := ⟨.hbm, 167, rfl⟩
abbrev main_v131 : Ref sig .tc := ⟨.hbm, 168, rfl⟩
abbrev main_v132 : Ref sig .tc := ⟨.hbm, 169, rfl⟩
abbrev main_v133 : Ref sig .tc := ⟨.hbm, 170, rfl⟩
abbrev main_v134 : Ref sig .tc := ⟨.hbm, 171, rfl⟩
abbrev main_v135 : Ref sig .tc := ⟨.hbm, 172, rfl⟩
abbrev main_v136 : Ref sig .tc := ⟨.hbm, 173, rfl⟩
abbrev main_v137 : Ref sig .tc := ⟨.hbm, 174, rfl⟩
abbrev main_v138 : Ref sig .tc := ⟨.hbm, 175, rfl⟩
abbrev main_v139 : Ref sig .tc := ⟨.hbm, 176, rfl⟩
abbrev main_v140 : Ref sig .tc := ⟨.hbm, 177, rfl⟩
abbrev main_v141 : Ref sig .tc := ⟨.hbm, 178, rfl⟩
abbrev main_v142 : Ref sig .tc := ⟨.hbm, 179, rfl⟩
abbrev main_v143 : Ref sig .tc := ⟨.hbm, 180, rfl⟩
abbrev main_v144 : Ref sig .tc := ⟨.hbm, 181, rfl⟩
abbrev main_v145 : Ref sig .tc := ⟨.hbm, 182, rfl⟩
abbrev main_v146 : Ref sig .tc := ⟨.hbm, 183, rfl⟩
abbrev main_v147 : Ref sig .tc := ⟨.hbm, 184, rfl⟩
abbrev main_v148 : Ref sig .tc := ⟨.hbm, 185, rfl⟩
abbrev main_v149 : Ref sig .tc := ⟨.hbm, 186, rfl⟩
abbrev main_v150 : Ref sig .tc := ⟨.hbm, 187, rfl⟩
abbrev main_v151 : Ref sig .tc := ⟨.hbm, 188, rfl⟩
abbrev main_v152 : Ref sig .tc := ⟨.hbm, 189, rfl⟩
abbrev main_v153 : Ref sig .tc := ⟨.hbm, 190, rfl⟩
abbrev main_cst_9 : Ref sig .tc := ⟨.hbm, 191, rfl⟩
abbrev main_v154 : Ref sig .tc := ⟨.hbm, 192, rfl⟩
abbrev main_v155 : Ref sig .tc := ⟨.hbm, 193, rfl⟩
abbrev main_v156 : Ref sig .tc := ⟨.hbm, 194, rfl⟩
abbrev main_v157 : Ref sig .tc := ⟨.hbm, 195, rfl⟩
abbrev main_v158 : Ref sig .tc := ⟨.hbm, 196, rfl⟩
abbrev main_v159 : Ref sig .tc := ⟨.hbm, 197, rfl⟩
abbrev main_v160 : Ref sig .tc := ⟨.hbm, 198, rfl⟩
abbrev main_v161 : Ref sig .tc := ⟨.hbm, 199, rfl⟩
abbrev main_v162 : Ref sig .tc := ⟨.hbm, 200, rfl⟩
abbrev main_v163 : Ref sig .tc := ⟨.hbm, 201, rfl⟩
abbrev main_v164 : Ref sig .tc := ⟨.hbm, 202, rfl⟩
abbrev main_v165 : Ref sig .tc := ⟨.hbm, 203, rfl⟩
abbrev main_v166 : Ref sig .tc := ⟨.hbm, 204, rfl⟩
abbrev main_v167 : Ref sig .tc := ⟨.hbm, 205, rfl⟩
abbrev main_v168 : Ref sig .tc := ⟨.hbm, 206, rfl⟩
abbrev main_v169 : Ref sig .tc := ⟨.hbm, 207, rfl⟩
abbrev main_v170 : Ref sig .tc := ⟨.hbm, 208, rfl⟩
abbrev main_v171 : Ref sig .tc := ⟨.hbm, 209, rfl⟩
abbrev main_v172 : Ref sig .tc := ⟨.hbm, 210, rfl⟩
abbrev main_cst_10 : Ref sig .tc := ⟨.hbm, 211, rfl⟩
abbrev main_v173 : Ref sig .tc := ⟨.hbm, 212, rfl⟩
abbrev main_v174 : Ref sig .tc := ⟨.hbm, 213, rfl⟩
abbrev main_v175 : Ref sig .tc := ⟨.hbm, 214, rfl⟩
abbrev main_v176 : Ref sig .tc := ⟨.hbm, 215, rfl⟩
abbrev main_v177 : Ref sig .tc := ⟨.hbm, 216, rfl⟩
abbrev main_v178 : Ref sig .tc := ⟨.hbm, 217, rfl⟩
abbrev main_v179 : Ref sig .tc := ⟨.hbm, 218, rfl⟩
abbrev main_v180 : Ref sig .tc := ⟨.hbm, 219, rfl⟩
abbrev main_v181 : Ref sig .tc := ⟨.hbm, 220, rfl⟩
abbrev main_v182 : Ref sig .tc := ⟨.hbm, 221, rfl⟩
abbrev main_v183 : Ref sig .tc := ⟨.hbm, 222, rfl⟩
abbrev main_v184 : Ref sig .tc := ⟨.hbm, 223, rfl⟩
abbrev main_v185 : Ref sig .tc := ⟨.hbm, 224, rfl⟩
abbrev main_v186 : Ref sig .tc := ⟨.hbm, 225, rfl⟩
abbrev main_v187 : Ref sig .tc := ⟨.hbm, 226, rfl⟩
abbrev main_v188 : Ref sig .tc := ⟨.hbm, 227, rfl⟩
abbrev main_v189 : Ref sig .tc := ⟨.hbm, 228, rfl⟩
abbrev main_v190 : Ref sig .tc := ⟨.hbm, 229, rfl⟩
abbrev main_cst_11 : Ref sig .tc := ⟨.hbm, 230, rfl⟩
abbrev main_v191 : Ref sig .tc := ⟨.hbm, 231, rfl⟩
abbrev main_v192 : Ref sig .tc := ⟨.hbm, 232, rfl⟩
abbrev main_cst_12 : Ref sig .tc := ⟨.hbm, 233, rfl⟩
abbrev main_v193 : Ref sig .tc := ⟨.hbm, 234, rfl⟩
abbrev main_v194 : Ref sig .tc := ⟨.hbm, 235, rfl⟩
abbrev main_v195 : Ref sig .tc := ⟨.hbm, 236, rfl⟩
abbrev main_v196 : Ref sig .tc := ⟨.hbm, 237, rfl⟩

abbrev nD : Nat := 1
abbrev τ : Topo := Topo.v7x

variable {F : FTy → Type} [FloatOps F]
-- ==== Proof.KernelFrame.lean ====
/- The frame of the kernel as it is printed: every weakly fair run ends, leaves the 27 argument arrays as they were
   and every semaphore counter at zero. Nothing is said of what the run computes: the body is followed with its
   three scratch buffers and its two output blocks at any contents. -/
module

public import proofs.«01_k».proof.Proof.Gen.Kernel.Skeleton
public import proofs.«01_k».proof.Proof.Gen.Kernel.Frame
public import Idealize.ShloMosaic.Lib.Claim

@[expose] public section

set_option maxRecDepth 16384

noncomputable section

namespace Cert.Kernel.Safe

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The first phase's condition at grid coordinates `i`: the grid is at its start. -/
abbrev atStart (i : grid0.Coords) : Prop :=
  (Scalar.cmpi .ne (Scalar.extui (Scalar.cmpi .eq (BitVec.ofNat 32 (i 0).val) 0#32)) 0#32) = 1#1

/-- The phases at each point of the grid: points 0 to 15 copy a block of the matrix (point 0 the features too), points 16
    to 23 multiply, points 24 to 31 write results. -/
theorem phases : ∀ t : Fin cfg0.N,
    (atStart (grid0.coords t) ∧ k0_cond2 (grid0.coords t) = 1#1 ∧ ¬k0_cond3 (grid0.coords t) = 1#1 ∧ ¬k0_cond4 (grid0.coords t) = 1#1)
    ∨ (¬atStart (grid0.coords t) ∧ k0_cond2 (grid0.coords t) = 1#1 ∧ ¬k0_cond3 (grid0.coords t) = 1#1 ∧ ¬k0_cond4 (grid0.coords t) = 1#1)
    ∨ (¬atStart (grid0.coords t) ∧ ¬k0_cond2 (grid0.coords t) = 1#1 ∧ k0_cond3 (grid0.coords t) = 1#1 ∧ ¬k0_cond4 (grid0.coords t) = 1#1)
    ∨ (¬atStart (grid0.coords t) ∧ ¬k0_cond2 (grid0.coords t) = 1#1 ∧ ¬k0_cond3 (grid0.coords t) = 1#1 ∧ k0_cond4 (grid0.coords t) = 1#1) :=
  (by decide +kernel : ∀ t : Fin grid0.N, _)

set_option maxHeartbeats 4000000 in
/-- The body in any phase: it keeps its inputs, and gives back its output blocks and its scratch at some contents. -/
theorem body_runs (c : Dev nD) (i : grid0.Coords)
    (arg1 : Memref sig .tc .vmem S256x4096 .f32) (harg1 : arg1.IsWhole)
    (arg2 : Memref sig .tc .vmem S128x4096 .f32) (harg2 : arg2.IsWhole)
    (arg3 : Memref sig .tc .vmem S64x4096 .f32) (harg3 : arg3.IsWhole)
    (arg4 : Memref sig .tc .vmem S3x256x128 .f32) (harg4 : arg4.IsWhole)
    (arg5 : Memref sig .tc .vmem S256x1 .f32) (harg5 : arg5.IsWhole)
    (arg6 : Memref sig .tc .vmem S64x1 .f32) (harg6 : arg6.IsWhole)
    (arg7 : Memref sig .tc .vmem S64x1 .f32) (harg7 : arg7.IsWhole)
    (arg8 : Memref sig .tc .vmem S64x1 .f32) (harg8 : arg8.IsWhole)
    (arg9 : Memref sig .tc .vmem S512x64 .f32) (harg9 : arg9.IsWhole)
    (arg10 : Memref sig .tc .vmem S512x64 .f32) (harg10 : arg10.IsWhole)
    (arg11 : Memref sig .tc .vmem S4096x4096 .bf16) (harg11 : arg11.IsWhole)
    (arg12 : Memref sig .tc .vmem S128x4096 .bf16) (harg12 : arg12.IsWhole)
    (arg13 : Memref sig .tc .vmem S128x4096 .bf16) (harg13 : arg13.IsWhole)
    (x0 : Vec F S256x4096 .f32) (x1 : Vec F S128x4096 .f32) (x2 : Vec F S64x4096 .f32) (x3 : Vec F S3x256x128 .f32)
    (x4 : Vec F S256x1 .f32) (x5 x6 x7 : Vec F S64x1 .f32)
    (hi : (atStart i ∧ k0_cond2 i = 1#1 ∧ ¬k0_cond3 i = 1#1 ∧ ¬k0_cond4 i = 1#1)
      ∨ (¬atStart i ∧ k0_cond2 i = 1#1 ∧ ¬k0_cond3 i = 1#1 ∧ ¬k0_cond4 i = 1#1)
      ∨ (¬atStart i ∧ ¬k0_cond2 i = 1#1 ∧ k0_cond3 i = 1#1 ∧ ¬k0_cond4 i = 1#1)
      ∨ (¬atStart i ∧ ¬k0_cond2 i = 1#1 ∧ ¬k0_cond3 i = 1#1 ∧ k0_cond4 i = 1#1))
    (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7
          ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7
          ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)) -∗ K ⟨⟩))
      ⊢ wp frame (wpE (defs₀ (F := F)) Variants.none c none) Set.univ
          (cc0__fused_kernel i arg1 harg1 arg2 harg2 arg3 harg3 arg4 harg4 arg5 harg5 arg6 harg6 arg7 harg7 arg8 harg8 arg9 harg9 arg10 harg10 arg11 harg11 arg12 harg12 arg13 harg13) K := by
  simp only [cc0__fused_kernel_eq_skeleton]; unfold cc0__fused_kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%d12, %f12, -, H12⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7
  rcases hi with ⟨hc0, hc1, hc2, hc3⟩ | ⟨hc0, hc1, hc2, hc3⟩ | ⟨hc0, hc1, hc2, hc3⟩ | ⟨hc0, hc1, hc2, hc3⟩
  all_goals
    · sl_exec (disch := first | sl_exact hc0 | sl_exact hc1 | sl_exact hc2 | sl_exact hc3)
      sl_step
      iapply Hk
      isplitl [H0]
      · iexists _; isplitr; · ipureintro; exact harg1.read_unread _
        iexact H0
      isplitl [H1]
      · iexists _; isplitr; · ipureintro; exact harg2.read_unread _
        iexact H1
      isplitl [H2]
      · iexists _; isplitr; · ipureintro; exact harg3.read_unread _
        iexact H2
      isplitl [H3]
      · iexists _; isplitr; · ipureintro; exact harg4.read_unread _
        iexact H3
      isplitl [H4]
      · iexists _; isplitr; · ipureintro; exact harg5.read_unread _
        iexact H4
      isplitl [H5]
      · iexists _; isplitr; · ipureintro; exact harg6.read_unread _
        iexact H5
      isplitl [H6]
      · iexists _; isplitr; · ipureintro; exact harg7.read_unread _
        iexact H6
      isplitl [H7]
      · iexists _; isplitr; · ipureintro; exact harg8.read_unread _
        iexact H7
      isplitl [H8]
      · iexists _; iexists _; isplitr; swap; · iexact H8
        ipureintro; rfl
      isplitl [H9]
      · iexists _; iexists _; isplitr; swap; · iexact H9
        ipureintro; rfl
      isplitl [H10]
      · iexists _; iexists _; isplitr; swap; · iexact H10
        ipureintro; rfl
      isplitl [H11]
      · iexists _; iexists _; isplitr; swap; · iexact H11
        ipureintro; rfl
      iexists _; iexists _; isplitr; swap; · iexact H12
      ipureintro; rfl

/-! ## The launch -/

/-- The two output windows, of which nothing is stated. -/
def forgets : Fin 10 → Bool := fun w => w.val == 8 || w.val == 9

/-- The proof data: every input block as the arrays hold it, the outputs unnamed, the scratch at anything. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, h⟩ => Pipeline.Dat.unnamed (cfg := cfg0) ⟨8, h⟩ t
    | ⟨9, h⟩ => Pipeline.Dat.unnamed (cfg := cfg0) ⟨9, h⟩ t
  Φ _ := Pipeline.ΦA spec0 c
  q _ := fullShare
  owed _ := 0

/-- The arrays are those the launch finds. -/
theorem A_eq (c : Dev nD) (w : Fin cfg0.W) : (dats m 0 c).A w = V m c (Pipeline.arrRef spec0 w) := by
  dsimp only [dats]

/-- The scratch buffers and the generator register, each at something. -/
theorem scratch_eq (c : Dev nD) :
    (Pipeline.ΦA spec0 c : sProp 𝕄)
      = iprop(iprop((∃ d, owns (c : Thread nD τ) (Memref.whole cc0_scratch0) fullShare d)
          ∗ (∃ d, owns (c : Thread nD τ) (Memref.whole cc0_scratch1) fullShare d)
          ∗ (∃ d, owns (c : Thread nD τ) (Memref.whole cc0_scratch2) fullShare d)) ∗ (∃ r, prngReg c r)) := by
  unfold Pipeline.ΦA; rw [scopedRest0_eq]; simp only [owns_whole]; try rfl

/-! Each input's staging buffer holds the input's block at every point. -/
/-- Input 0's staging buffer holds the input's block at every point. -/
theorem before_0 (c : Dev nD) (t : Fin cfg0.N) (d) : (dats m 0 c).before 0 t d = iblk m c 0 t :=
  before0_0_of m (dats m 0 c) (A_eq m c 0) (fun _ => by dsimp only [dats]) t d
/-- Input 1's staging buffer holds the input's block at every point. -/
theorem before_1 (c : Dev nD) (t : Fin cfg0.N) (d) : (dats m 0 c).before 1 t d = iblk m c 1 t :=
  before0_1_of m (dats m 0 c) (A_eq m c 1) (fun _ => by dsimp only [dats]) t d
/-- Input 2's staging buffer holds the input's block at every point. -/
theorem before_2 (c : Dev nD) (t : Fin cfg0.N) (d) : (dats m 0 c).before 2 t d = iblk m c 2 t :=
  before0_2_of m (dats m 0 c) (A_eq m c 2) (fun _ => by dsimp only [dats]) t d
/-- Input 3's staging buffer holds the input's block at every point. -/
theorem before_3 (c : Dev nD) (t : Fin cfg0.N) (d) : (dats m 0 c).before 3 t d = iblk m c 3 t :=
  before0_3_of m (dats m 0 c) (A_eq m c 3) (fun _ => by dsimp only [dats]) t d
/-- Input 4's staging buffer holds the input's block at every point. -/
theorem before_4 (c : Dev nD) (t : Fin cfg0.N) (d) : (dats m 0 c).before 4 t d = iblk m c 4 t :=
  before0_4_of m (dats m 0 c) (A_eq m c 4) (fun _ => by dsimp only [dats]) t d
/-- Input 5's staging buffer holds the input's block at every point. -/
theorem before_5 (c : Dev nD) (t : Fin cfg0.N) (d) : (dats m 0 c).before 5 t d = iblk m c 5 t :=
  before0_5_of m (dats m 0 c) (A_eq m c 5) (fun _ => by dsimp only [dats]) t d
/-- Input 6's staging buffer holds the input's block at every point. -/
theorem before_6 (c : Dev nD) (t : Fin cfg0.N) (d) : (dats m 0 c).before 6 t d = iblk m c 6 t :=
  before0_6_of m (dats m 0 c) (A_eq m c 6) (fun _ => by dsimp only [dats]) t d
/-- Input 7's staging buffer holds the input's block at every point. -/
theorem before_7 (c : Dev nD) (t : Fin cfg0.N) (d) : (dats m 0 c).before 7 t d = iblk m c 7 t :=
  before0_7_of m (dats m 0 c) (A_eq m c 7) (fun _ => by dsimp only [dats]) t d

/-- What the body starts a point with. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare d)
    ∗ (∃ d, owns (c : Thread nD τ) (st0_9 t) fullShare d))

/-! An input's buffer is left holding the input's block. -/
/-- The body leaves the block of input 0 in its staging buffer. -/
theorem leaves_0 (c : Dev nD) (t : Fin cfg0.N) :
    (dats m 0 c).leavesExact 0 t = owns (c : Thread nD τ) (st0_0 t) fullShare (iblk m c 0 t) := by
  unfold Dat.leavesExact; rw [show cfg0.idle 0 (cfg0.grid.coords t) = false from rfl]; dsimp only [dats]
/-- The body leaves the block of input 1 in its staging buffer. -/
theorem leaves_1 (c : Dev nD) (t : Fin cfg0.N) :
    (dats m 0 c).leavesExact 1 t = owns (c : Thread nD τ) (st0_1 t) fullShare (iblk m c 1 t) := by
  unfold Dat.leavesExact; rw [show cfg0.idle 1 (cfg0.grid.coords t) = false from rfl]; dsimp only [dats]
/-- The body leaves the block of input 2 in its staging buffer. -/
theorem leaves_2 (c : Dev nD) (t : Fin cfg0.N) :
    (dats m 0 c).leavesExact 2 t = owns (c : Thread nD τ) (st0_2 t) fullShare (iblk m c 2 t) := by
  unfold Dat.leavesExact; rw [show cfg0.idle 2 (cfg0.grid.coords t) = false from rfl]; dsimp only [dats]
/-- The body leaves the block of input 3 in its staging buffer. -/
theorem leaves_3 (c : Dev nD) (t : Fin cfg0.N) :
    (dats m 0 c).leavesExact 3 t = owns (c : Thread nD τ) (st0_3 t) fullShare (iblk m c 3 t) := by
  unfold Dat.leavesExact; rw [show cfg0.idle 3 (cfg0.grid.coords t) = false from rfl]; dsimp only [dats]
/-- The body leaves the block of input 4 in its staging buffer. -/
theorem leaves_4 (c : Dev nD) (t : Fin cfg0.N) :
    (dats m 0 c).leavesExact 4 t = owns (c : Thread nD τ) (st0_4 t) fullShare (iblk m c 4 t) := by
  unfold Dat.leavesExact; rw [show cfg0.idle 4 (cfg0.grid.coords t) = false from rfl]; dsimp only [dats]
/-- The body leaves the block of input 5 in its staging buffer. -/
theorem leaves_5 (c : Dev nD) (t : Fin cfg0.N) :
    (dats m 0 c).leavesExact 5 t = owns (c : Thread nD τ) (st0_5 t) fullShare (iblk m c 5 t) := by
  unfold Dat.leavesExact; rw [show cfg0.idle 5 (cfg0.grid.coords t) = false from rfl]; dsimp only [dats]
/-- The body leaves the block of input 6 in its staging buffer. -/
theorem leaves_6 (c : Dev nD) (t : Fin cfg0.N) :
    (dats m 0 c).leavesExact 6 t = owns (c : Thread nD τ) (st0_6 t) fullShare (iblk m c 6 t) := by
  unfold Dat.leavesExact; rw [show cfg0.idle 6 (cfg0.grid.coords t) = false from rfl]; dsimp only [dats]
/-- The body leaves the block of input 7 in its staging buffer. -/
theorem leaves_7 (c : Dev nD) (t : Fin cfg0.N) :
    (dats m 0 c).leavesExact 7 t = owns (c : Thread nD τ) (st0_7 t) fullShare (iblk m c 7 t) := by
  unfold Dat.leavesExact; rw [show cfg0.idle 7 (cfg0.grid.coords t) = false from rfl]; dsimp only [dats]

/-- What it leaves. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (∃ d, owns (c : Thread nD τ) (st0_8 t) fullShare d)
    ∗ (∃ d, owns (c : Thread nD τ) (st0_9 t) fullShare d))

set_option maxHeartbeats 4000000 in
/-- The body at a point of the grid. -/
theorem body_point (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7,
    leaves_0, leaves_1, leaves_2, leaves_3, leaves_4, leaves_5, leaves_6, leaves_7]
  rw [show (dats m 0 c).owesAt () t.succ = (dats m 0 c).owesAt () t.castSucc from rfl,
    show (dats m 0 c).Φ t.succ = Pipeline.ΦA spec0 c from rfl, show (dats m 0 c).Φ t.castSucc = Pipeline.ΦA spec0 c from rfl,
    scratch_eq]
  iintro ⟨⟨⟨S0, S1, S2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, H8, H9⟩
  iapply (body_runs c (grid0.coords t) _ _ _ _ _ _ _ _ _ _ _ _ _ _ _ _ _ _ _ _ _ _ _ _ _ _ (iblk m c 0 t) (iblk m c 1 t) (iblk m c 2 t)
    (iblk m c 3 t) (iblk m c 4 t) (iblk m c 5 t) (iblk m c 6 t) (iblk m c 7 t) (phases t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [S0]; · iexact S0
  isplitl [S1]; · iexact S1
  isplitl [S2]; · iexact S2
  iintro ⟨H0, H1, H2, H3, H4, H5, H6, H7, H8, H9, S0, S1, S2⟩
  isplitl [S0 S1 S2 Hg]
  · isplitl [S0 S1 S2]
    · isplitl [S0]; · iexact S0
      isplitl [S1]; · iexact S1
      iexact S2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The body meets its obligation at every point of the grid. -/
theorem body_ok (c : Dev nD) :
    BodyObligation (dats (F := F) m 0 c) (defs₀ (F := F)) Variants.none () Set.univ forgets := fun t => by
  rw [bigSep_W0, bigSep_W0, show defs₀ (F := F) .tc cfg0.body (cfg0.bodyArgs t (cfg0.slots t)) = bodyAt0 t from by
    unfold defs₀; rw [Defs.onTc_tc]]
  exact triple_restated (body_point m c t) rfl .rfl fun _ => .rfl

set_option backward.isDefEq.respectTransparency.types false in
/-- The run: it ends, every input array and every other buffer is as the launch found it, every counter is zero. -/
theorem run_ends : θ_run defs (onTc (τ := τ) (main (F := F))) (s₀ m ρ)
    (fun r => (Pipeline.RDat.FramePost (cfgs 0) (fun c => (dats m 0 c).toRForget forgets) (V m)) r ∧ r.2.sem = fun _ => 0) :=
  Pipeline.θ_run_frame_forget (Q' := _) cfgs (dats m) (0 : Fin 1) launch0 defs₀ Variants.none forgets m ρ main
    (hbody := fun c => (body_ok m c).loose) (hshare := fun c => (dats m 0 c).share_full fun _ => rfl)
    (howed := fun _ _ => rfl) (V := V m) (hmain := hmain m Variants.none) (hA := A_eq m) (hΦ := fun _ _ => rfl)

set_option maxHeartbeats 1600000 in
/-- The frame of the kernel, at any values. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26))
      ∧ r.2.sem = fun _ => 0) :=
  (θ_run defs _ _).mono (fun _ h => ⟨fun c => ⟨((h.1 c).2 main_arg0 (Pipeline.mem_restRefs_of main_arg0 (by decide) (by decide))).trans (V_main_arg0 m c),
      (Pipeline.RDat.FramePost.arr_in h.1 c 0 rfl).trans ((A_eq m c 0).trans (V_main_arg1 m c)),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c),
      ((h.1 c).2 main_arg5 (Pipeline.mem_restRefs_of main_arg5 (by decide) (by decide))).trans (V_main_arg5 m c),
      ((h.1 c).2 main_arg6 (Pipeline.mem_restRefs_of main_arg6 (by decide) (by decide))).trans (V_main_arg6 m c),
      ((h.1 c).2 main_arg7 (Pipeline.mem_restRefs_of main_arg7 (by decide) (by decide))).trans (V_main_arg7 m c),
      ((h.1 c).2 main_arg8 (Pipeline.mem_restRefs_of main_arg8 (by decide) (by decide))).trans (V_main_arg8 m c),
      ((h.1 c).2 main_arg9 (Pipeline.mem_restRefs_of main_arg9 (by decide) (by decide))).trans (V_main_arg9 m c),
      ((h.1 c).2 main_arg10 (Pipeline.mem_restRefs_of main_arg10 (by decide) (by decide))).trans (V_main_arg10 m c),
      ((h.1 c).2 main_arg11 (Pipeline.mem_restRefs_of main_arg11 (by decide) (by decide))).trans (V_main_arg11 m c),
      ((h.1 c).2 main_arg12 (Pipeline.mem_restRefs_of main_arg12 (by decide) (by decide))).trans (V_main_arg12 m c),
      ((h.1 c).2 main_arg13 (Pipeline.mem_restRefs_of main_arg13 (by decide) (by decide))).trans (V_main_arg13 m c),
      ((h.1 c).2 main_arg14 (Pipeline.mem_restRefs_of main_arg14 (by decide) (by decide))).trans (V_main_arg14 m c),
      ((h.1 c).2 main_arg15 (Pipeline.mem_restRefs_of main_arg15 (by decide) (by decide))).trans (V_main_arg15 m c),
      ((h.1 c).2 main_arg16 (Pipeline.mem_restRefs_of main_arg16 (by decide) (by decide))).trans (V_main_arg16 m c),
      ((h.1 c).2 main_arg17 (Pipeline.mem_restRefs_of main_arg17 (by decide) (by decide))).trans (V_main_arg17 m c),
      ((h.1 c).2 main_arg18 (Pipeline.mem_restRefs_of main_arg18 (by decide) (by decide))).trans (V_main_arg18 m c),
      ((h.1 c).2 main_arg19 (Pipeline.mem_restRefs_of main_arg19 (by decide) (by decide))).trans (V_main_arg19 m c),
      ((h.1 c).2 main_arg20 (Pipeline.mem_restRefs_of main_arg20 (by decide) (by decide))).trans (V_main_arg20 m c),
      ((h.1 c).2 main_arg21 (Pipeline.mem_restRefs_of main_arg21 (by decide) (by decide))).trans (V_main_arg21 m c),
      ((h.1 c).2 main_arg22 (Pipeline.mem_restRefs_of main_arg22 (by decide) (by decide))).trans (V_main_arg22 m c),
      ((h.1 c).2 main_arg23 (Pipeline.mem_restRefs_of main_arg23 (by decide) (by decide))).trans (V_main_arg23 m c),
      ((h.1 c).2 main_arg24 (Pipeline.mem_restRefs_of main_arg24 (by decide) (by decide))).trans (V_main_arg24 m c),
      ((h.1 c).2 main_arg25 (Pipeline.mem_restRefs_of main_arg25 (by decide) (by decide))).trans (V_main_arg25 m c),
      ((h.1 c).2 main_arg26 (Pipeline.mem_restRefs_of main_arg26 (by decide) (by decide))).trans (V_main_arg26 m c)⟩, h.2⟩) (run_ends m ρ)

end Cert.Kernel.Safe

end
-- ==== Proof.IdealBody.lean ====
/- One grid point of the kernel's body, with what it leaves: the scratch that holds the transposed matrix, the scratch that
   holds the first product, the scratch that holds the features, and the two output blocks, each as a function of what
   the point found. The statement is at any values. -/
module

public import proofs.«01_k».proof.Proof.Gen.KernelIdeal.Skeleton
public import proofs.«01_k».proof.Proof.Gen.KernelIdeal.Frame
public import Idealize.ShloMosaic.Lib.Claim
public import Idealize.ShloMosaic.Lib.WritesUnit
public import Idealize.ShloMosaic.Lib.Pipeline.Value

@[expose] public section

set_option maxRecDepth 16384

noncomputable section

namespace Cert.KernelIdeal.Fused

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-- The first phase's condition at grid coordinates `i`: the grid is at its start. -/
abbrev atStart (i : grid0.Coords) : Prop :=
  (Scalar.cmpi .ne (Scalar.extui (Scalar.cmpi .eq (BitVec.ofNat 32 (i 0).val) 0#32)) 0#32) = 1#1

/-- `d` with the box at `off` of extents `size` overwritten by `w`. -/
def put {s : Shape} {α : Type} (off size : Fin s.rank → ℕ) (w : ((a : Fin s.rank) → Fin (size a)) → α) (d : s.Idx → α) : s.Idx → α :=
  fun y => if h : ∀ a, off a ≤ (y a).val ∧ (y a).val < off a + size a then w (Rect.unitLocal (s := s) (off := off) (size := size) y h) else d y

/-- The transposed matrix's scratch after a point: a point of the first phase puts one block of rows, transposed. -/
def matAfter (i : grid0.Coords) (x0 : Vec F S256x4096 .f32) (d0 : Vec F S4096x4096 .bf16) : Vec F S4096x4096 .bf16 :=
  if k0_cond2 i = 1#1 then put (s := S4096x4096) (k0_off1 i) S4096x256.size (k0_pay2 x0) d0 else d0

/-- The features' scratch after a point: the first point fills it. -/
def featAfter (i : grid0.Coords) (x1 : Vec F S128x4096 .f32) (d2 : Vec F S128x4096 .bf16) : Vec F S128x4096 .bf16 :=
  if atStart i then k0_pay1 x1 else d2

/-- The first product's scratch after a point: a point of the second phase puts one block of columns. -/
def prodAfter (i : grid0.Coords) (d0 : Vec F S4096x4096 .bf16) (d1 d2 : Vec F S128x4096 .bf16) : Vec F S128x4096 .bf16 :=
  if h : k0_cond3 i = 1#1 then
    put (s := S128x4096) (k0_off3 i) S128x512.size
      (k0_pay3 d2 (View.ld (Val := Elt F) (e' := .bf16) d0 (Rect.unit (s := S4096x4096) (k0_off2 i) S4096x512.size (k0_off2_inb i h)))) d1
  else d1

/-- The four gates' inputs at a point of the last phase. -/
def preact (i : grid0.Coords) (h : k0_cond4 i = 1#1) (x1 : Vec F S128x4096 .f32) (x3 : Vec F S3x256x128 .f32)
    (x4 : Vec F S256x1 .f32) (d0 : Vec F S4096x4096 .bf16) (d1 d2 : Vec F S128x4096 .bf16) : Vec F S256x512 .f32 :=
  k0_pay7 d1 (View.ld (Val := Elt F) (e' := .bf16) d0 (Rect.unit (s := S4096x4096) (k0_off4 i) S4096x512.size (k0_off4_inb i h)))
    (View.ld (Val := Elt F) (e' := .f32) x1 (Rect.unit (s := S128x4096) (k0_off5 i) S128x512.size (k0_off5_inb i h))) x3
    (View.ld (Val := Elt F) (e' := .bf16) d2 (Rect.unit (s := S128x4096) (k0_off5 i) S128x512.size (k0_off5_inb i h)))
    (View.ld (Val := Elt F) (e' := .bf16) d1 (Rect.unit (s := S128x4096) (k0_off5 i) S128x512.size (k0_off5_inb i h))) x4

/-- The cells' old state at a point of the last phase. -/
def oldCell (i : grid0.Coords) (h : k0_cond4 i = 1#1) (x2 : Vec F S64x4096 .f32) : Vec F S64x512 .f32 :=
  View.ld (Val := Elt F) (e' := .f32) x2 (Rect.unit (s := S64x4096) (k0_off6 i) S64x512.size (k0_off6_inb i h))

/-- The first output's block after a point: a point of the last phase fills it. -/
def hnAfter (i : grid0.Coords) (x1 : Vec F S128x4096 .f32) (x2 : Vec F S64x4096 .f32) (x3 : Vec F S3x256x128 .f32)
    (x4 : Vec F S256x1 .f32) (x5 x6 x7 : Vec F S64x1 .f32) (d0 : Vec F S4096x4096 .bf16) (d1 d2 : Vec F S128x4096 .bf16)
    (y : Vec F S512x64 .f32) : Vec F S512x64 .f32 :=
  if h : k0_cond4 i = 1#1 then k0_pay5 (preact i h x1 x3 x4 d0 d1 d2) (oldCell i h x2) x5 x6 x7 else y

/-- The second output's block after a point: a point of the last phase fills it. -/
def cnAfter (i : grid0.Coords) (x1 : Vec F S128x4096 .f32) (x2 : Vec F S64x4096 .f32) (x3 : Vec F S3x256x128 .f32)
    (x4 : Vec F S256x1 .f32) (x5 x6 : Vec F S64x1 .f32) (d0 : Vec F S4096x4096 .bf16) (d1 d2 : Vec F S128x4096 .bf16)
    (y : Vec F S512x64 .f32) : Vec F S512x64 .f32 :=
  if h : k0_cond4 i = 1#1 then k0_pay6 (preact i h x1 x3 x4 d0 d1 d2) (oldCell i h x2) x5 x6 else y

/-- A box stored into a buffer leaves the buffer with the box put in. -/
theorem read_put {Val : EltTy → Type} {κ : Kind} {sp : Space} {s : Shape} {e : EltTy} (v : View sig κ sp s e) (f : v.ty.Contents Val)
    (off size : Fin s.rank → ℕ) (inb : ∀ a, off a + size a ≤ s.size a) (w : (Rect.unit off size inb).shape.Idx → Val e) :
    v.read Val (v.writes Val f [⟨Rect.unit off size inb, w⟩]) = put off size w (v.read Val f) :=
  funext fun y => (View.read_writes_cons_unit v f inb w [] y rfl).trans rfl

/-- A whole buffer stored over leaves what was stored. -/
theorem read_over {Val : EltTy → Type} {κ : Kind} {sp : Space} {s : Shape} {e : EltTy} (v : View sig κ sp s e) (f : v.ty.Contents Val)
    {off : Fin s.rank → ℕ} (hz : off = fun _ => 0) (inb : ∀ a, off a + s.size a ≤ s.size a)
    (w : (Rect.unit off s.size inb).shape.Idx → Val e) :
    v.read Val (v.writes Val f [⟨Rect.unit off s.size inb, w⟩]) = w :=
  funext fun y => View.read_writes_cons_unit_of_mem v f inb w [] y y hz fun a => (Nat.zero_add _).symm

/-- A load of a whole buffer reads what it holds. -/
theorem load_whole {Val : EltTy → Type} {sp : Space} {s : Shape} {e : EltTy} (a : Memref sig .tc sp s e) (h : a.IsWhole)
    (X : s.Idx → Val e) {off : Fin s.rank → ℕ} (hz : off = fun _ => 0) (inb : ∀ a, off a + s.size a ≤ s.size a) :
    a.view.readAt Val (Rect.unit off s.size inb).toLoadRect (h.unread X) = X := by
  rw [View.readAt_eq_ld, h.read_unread, View.ld_unit_zero hz]

/-- A load of a box of a buffer reads the box of what it holds. -/
theorem load_box {Val : EltTy → Type} {sp : Space} {s : Shape} {e : EltTy} (a : Memref sig .tc sp s e) (h : a.IsWhole)
    (X : s.Idx → Val e) (r : Rect s) : a.view.readAt Val r.toLoadRect (h.unread X) = View.ld X r := by
  rw [View.readAt_eq_ld, h.read_unread]

/-- Two zero offsets. -/
theorem zeros2 : (![0, 0] : Fin 2 → ℕ) = fun _ => 0 := by decide
/-- Three zero offsets. -/
theorem zeros3 : (![0, 0, 0] : Fin 3 → ℕ) = fun _ => 0 := by decide

set_option maxHeartbeats 8000000 in
/-- The body at one point, in any phase: it keeps its inputs and leaves its outputs and its scratch as said above. -/
theorem body_stores (c : Dev nD) (i : grid0.Coords)
    (arg1 : Memref sig .tc .vmem S256x4096 .f32) (harg1 : arg1.IsWhole)
    (arg2 : Memref sig .tc .vmem S128x4096 .f32) (harg2 : arg2.IsWhole)
    (arg3 : Memref sig .tc .vmem S64x4096 .f32) (harg3 : arg3.IsWhole)
    (arg4 : Memref sig .tc .vmem S3x256x128 .f32) (harg4 : arg4.IsWhole)
    (arg5 : Memref sig .tc .vmem S256x1 .f32) (harg5 : arg5.IsWhole)
    (arg6 : Memref sig .tc .vmem S64x1 .f32) (harg6 : arg6.IsWhole)
    (arg7 : Memref sig .tc .vmem S64x1 .f32) (harg7 : arg7.IsWhole)
    (arg8 : Memref sig .tc .vmem S64x1 .f32) (harg8 : arg8.IsWhole)
    (arg9 : Memref sig .tc .vmem S512x64 .f32) (harg9 : arg9.IsWhole)
    (arg10 : Memref sig .tc .vmem S512x64 .f32) (harg10 : arg10.IsWhole)
    (arg11 : Memref sig .tc .vmem S4096x4096 .bf16) (harg11 : arg11.IsWhole)
    (arg12 : Memref sig .tc .vmem S128x4096 .bf16) (harg12 : arg12.IsWhole)
    (arg13 : Memref sig .tc .vmem S128x4096 .bf16) (harg13 : arg13.IsWhole)
    (x0 : Vec F S256x4096 .f32) (x1 : Vec F S128x4096 .f32) (x2 : Vec F S64x4096 .f32) (x3 : Vec F S3x256x128 .f32)
    (x4 : Vec F S256x1 .f32) (x5 x6 x7 : Vec F S64x1 .f32) (y8 y9 : Vec F S512x64 .f32)
    (d0 : Vec F S4096x4096 .bf16) (d1 d2 : Vec F S128x4096 .bf16)
    (hi : (atStart i ∧ k0_cond2 i = 1#1 ∧ ¬k0_cond3 i = 1#1 ∧ ¬k0_cond4 i = 1#1)
      ∨ (¬atStart i ∧ k0_cond2 i = 1#1 ∧ ¬k0_cond3 i = 1#1 ∧ ¬k0_cond4 i = 1#1)
      ∨ (¬atStart i ∧ ¬k0_cond2 i = 1#1 ∧ k0_cond3 i = 1#1 ∧ ¬k0_cond4 i = 1#1)
      ∨ (¬atStart i ∧ ¬k0_cond2 i = 1#1 ∧ ¬k0_cond3 i = 1#1 ∧ k0_cond4 i = 1#1))
    (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7
          ∗ owns (c : Thread nD τ) arg9 fullShare y8 ∗ owns (c : Thread nD τ) arg10 fullShare y9 ∗ owns (c : Thread nD τ) arg11 fullShare d0 ∗ owns (c : Thread nD τ) arg12 fullShare d1 ∗ owns (c : Thread nD τ) arg13 fullShare d2
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7
          ∗ owns (c : Thread nD τ) arg9 fullShare (hnAfter i x1 x2 x3 x4 x5 x6 x7 d0 d1 d2 y8) ∗ owns (c : Thread nD τ) arg10 fullShare (cnAfter i x1 x2 x3 x4 x5 x6 d0 d1 d2 y9) ∗ owns (c : Thread nD τ) arg11 fullShare (matAfter i x0 d0) ∗ owns (c : Thread nD τ) arg12 fullShare (prodAfter i d0 d1 d2) ∗ owns (c : Thread nD τ) arg13 fullShare (featAfter i x1 d2)) -∗ K ⟨⟩))
      ⊢ wp frame (wpE (defs₀ (F := F)) Variants.none c none) Set.univ
          (cc0__fused_kernel i arg1 harg1 arg2 harg2 arg3 harg3 arg4 harg4 arg5 harg5 arg6 harg6 arg7 harg7 arg8 harg8 arg9 harg9 arg10 harg10 arg11 harg11 arg12 harg12 arg13 harg13) K := by
  simp only [cc0__fused_kernel_eq_skeleton]; unfold cc0__fused_kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12
  rcases hi with ⟨hc0, hc1, hc2, hc3⟩ | ⟨hc0, hc1, hc2, hc3⟩ | ⟨hc0, hc1, hc2, hc3⟩ | ⟨hc0, hc1, hc2, hc3⟩
  all_goals
    · sl_exec (disch := first | sl_exact hc0 | sl_exact hc1 | sl_exact hc2 | sl_exact hc3)
      sl_step
      iapply Hk
      isplitl [H0]
      · iexists _; isplitr; · ipureintro; exact harg1.read_unread _
        iexact H0
      isplitl [H1]
      · iexists _; isplitr; · ipureintro; exact harg2.read_unread _
        iexact H1
      isplitl [H2]
      · iexists _; isplitr; · ipureintro; exact harg3.read_unread _
        iexact H2
      isplitl [H3]
      · iexists _; isplitr; · ipureintro; exact harg4.read_unread _
        iexact H3
      isplitl [H4]
      · iexists _; isplitr; · ipureintro; exact harg5.read_unread _
        iexact H4
      isplitl [H5]
      · iexists _; isplitr; · ipureintro; exact harg6.read_unread _
        iexact H5
      isplitl [H6]
      · iexists _; isplitr; · ipureintro; exact harg7.read_unread _
        iexact H6
      isplitl [H7]
      · iexists _; isplitr; · ipureintro; exact harg8.read_unread _
        iexact H7
      isplitl [H8]
      · iexists _; isplitr; swap; · iexact H8
        ipureintro; first | (rw [hnAfter, dif_neg hc3]; exact harg9.read_unread _) | (rw [hnAfter, dif_pos hc3]; sl_unfold_words; rw [read_over _ _ zeros2, preact, oldCell, load_whole arg6 harg6 x5 zeros2, load_whole arg7 harg7 x6 zeros2, load_whole arg8 harg8 x7 zeros2, load_whole arg12 harg12 d1 zeros2, load_whole arg4 harg4 x3 zeros3, load_whole arg5 harg5 x4 zeros2]; simp only [load_box]; rfl)
      isplitl [H9]
      · iexists _; isplitr; swap; · iexact H9
        ipureintro; first | (rw [cnAfter, dif_neg hc3]; exact harg10.read_unread _) | (rw [cnAfter, dif_pos hc3]; sl_unfold_words; rw [read_over _ _ zeros2, preact, oldCell, load_whole arg6 harg6 x5 zeros2, load_whole arg7 harg7 x6 zeros2, load_whole arg12 harg12 d1 zeros2, load_whole arg4 harg4 x3 zeros3, load_whole arg5 harg5 x4 zeros2]; simp only [load_box]; rfl)
      isplitl [H10]
      · iexists _; isplitr; swap; · iexact H10
        ipureintro; first | (rw [matAfter, if_neg hc1]; exact harg11.read_unread _) | (rw [matAfter, if_pos hc1, read_put, harg11.read_unread, load_whole arg1 harg1 x0 zeros2])
      isplitl [H11]
      · iexists _; isplitr; swap; · iexact H11
        ipureintro; first | (rw [prodAfter, dif_neg hc2]; exact harg12.read_unread _) | (rw [prodAfter, dif_pos hc2, read_put, harg12.read_unread]; sl_unfold_words; rw [load_whole arg13 harg13 d2 zeros2, load_box arg11 harg11 d0])
      iexists _; isplitr; swap; · iexact H12
      ipureintro; first | (rw [featAfter, if_neg hc0]; exact harg13.read_unread _) | (rw [featAfter, if_pos hc0, read_over _ _ zeros2, load_whole arg2 harg2 x1 zeros2])

end Cert.KernelIdeal.Fused
-- ==== Proof.IdealRun.lean ====
/- The launch of the kernel: what its scratch holds before each point of the grid, what each of its two output blocks
   holds when it is written back, and the run that follows. The statements are at any values. -/
module

public import proofs.«01_k».proof.Proof.IdealBody
public import Idealize.ShloMosaic.Lib.Pointwise.Index

@[expose] public section

set_option maxRecDepth 16384

noncomputable section

namespace Cert.KernelIdeal.Fused

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The points of the grid -/

/-- The phases at each point of the grid. -/
theorem phases : ∀ t : Fin cfg0.N,
    (atStart (grid0.coords t) ∧ k0_cond2 (grid0.coords t) = 1#1 ∧ ¬k0_cond3 (grid0.coords t) = 1#1 ∧ ¬k0_cond4 (grid0.coords t) = 1#1)
    ∨ (¬atStart (grid0.coords t) ∧ k0_cond2 (grid0.coords t) = 1#1 ∧ ¬k0_cond3 (grid0.coords t) = 1#1 ∧ ¬k0_cond4 (grid0.coords t) = 1#1)
    ∨ (¬atStart (grid0.coords t) ∧ ¬k0_cond2 (grid0.coords t) = 1#1 ∧ k0_cond3 (grid0.coords t) = 1#1 ∧ ¬k0_cond4 (grid0.coords t) = 1#1)
    ∨ (¬atStart (grid0.coords t) ∧ ¬k0_cond2 (grid0.coords t) = 1#1 ∧ ¬k0_cond3 (grid0.coords t) = 1#1 ∧ k0_cond4 (grid0.coords t) = 1#1) :=
  (by decide +kernel : ∀ t : Fin grid0.N, _)

/-- The features are filled at point 0. -/
theorem start_iff : ∀ t : Fin cfg0.N, atStart (grid0.coords t) ↔ t.val = 0 := (by decide +kernel : ∀ t : Fin grid0.N, _)
/-- The matrix is copied at points 0 to 15. -/
theorem copy_iff : ∀ t : Fin cfg0.N, k0_cond2 (grid0.coords t) = 1#1 ↔ t.val < 16 := (by decide +kernel : ∀ t : Fin grid0.N, _)
/-- The first product is taken at points 16 to 23. -/
theorem prod_iff : ∀ t : Fin cfg0.N, k0_cond3 (grid0.coords t) = 1#1 ↔ 16 ≤ t.val ∧ t.val < 24 := (by decide +kernel : ∀ t : Fin grid0.N, _)
/-- The outputs are written at points 24 to 31. -/
theorem write_iff : ∀ t : Fin cfg0.N, k0_cond4 (grid0.coords t) = 1#1 ↔ 24 ≤ t.val := (by decide +kernel : ∀ t : Fin grid0.N, _)

/-- Where point `t` of the first phase puts its block. -/
theorem off1_at : ∀ t : Fin cfg0.N, t.val < 16 → k0_off1 (grid0.coords t) = ![0, 256 * t.val] := (by decide +kernel : ∀ t : Fin grid0.N, _)
/-- Which columns point `t` of the second phase reads. -/
theorem off2_at : ∀ t : Fin cfg0.N, 16 ≤ t.val ∧ t.val < 24 → k0_off2 (grid0.coords t) = ![0, 512 * (t.val - 16)] := (by decide +kernel : ∀ t : Fin grid0.N, _)
/-- Which columns point `t` of the second phase puts. -/
theorem off3_at : ∀ t : Fin cfg0.N, 16 ≤ t.val ∧ t.val < 24 → k0_off3 (grid0.coords t) = ![0, 512 * (t.val - 16)] := (by decide +kernel : ∀ t : Fin grid0.N, _)
/-- Which columns of the matrix point `t` of the last phase reads. -/
theorem off4_at : ∀ t : Fin cfg0.N, 24 ≤ t.val → k0_off4 (grid0.coords t) = ![0, 512 * (t.val - 24)] := (by decide +kernel : ∀ t : Fin grid0.N, _)
/-- Which columns of the features point `t` of the last phase reads. -/
theorem off5_at : ∀ t : Fin cfg0.N, 24 ≤ t.val → k0_off5 (grid0.coords t) = ![0, 512 * (t.val - 24)] := (by decide +kernel : ∀ t : Fin grid0.N, _)
/-- Which columns of the old state point `t` of the last phase reads. -/
theorem off6_at : ∀ t : Fin cfg0.N, 24 ≤ t.val → k0_off6 (grid0.coords t) = ![0, 512 * (t.val - 24)] := (by decide +kernel : ∀ t : Fin grid0.N, _)

/-- The last phase has eight points. -/
theorem last_lt (t : Fin cfg0.N) : t.val - 24 < 8 := by
  have := t.isLt; have hN : cfg0.N = 32 := N_0; omega

/-! ## Boxes of columns -/

/-- Columns `512 k` to `512 k + 511` of an array of 4096 columns. -/
def cols {r : ℕ} {α : Type} (X : (⟨2, ![r, 4096]⟩ : Shape).Idx → α) (k : ℕ) (hk : k < 8) : (⟨2, ![r, 512]⟩ : Shape).Idx → α :=
  fun j => X (ix2 (j 0) (⟨512 * k + (j 1).val, by have h : (j 1).val < 512 := (j 1).isLt; omega⟩ : Fin 4096))

/-- The same columns, however they are numbered. -/
theorem cols_congr {r : ℕ} {α : Type} (X : (⟨2, ![r, 4096]⟩ : Shape).Idx → α) {k k' : ℕ} (e : k = k') (hk : k < 8) (hk' : k' < 8) :
    cols X k hk = cols X k' hk' := by subst e; rfl

/-- A load of a box of 512 whole columns reads those columns. -/
theorem ld_cols {r : ℕ} {e : EltTy} (X : Vec F ⟨2, ![r, 4096]⟩ e) (off : Fin 2 → ℕ) (k : ℕ) (hk : k < 8) (ho : off = ![0, 512 * k])
    (inb : ∀ a, off a + (![r, 512] : Fin 2 → ℕ) a ≤ (⟨2, ![r, 4096]⟩ : Shape).size a) :
    View.ld (Val := Elt F) (e' := e) X (Rect.unit (s := ⟨2, ![r, 4096]⟩) off ![r, 512] inb) = cols X k hk := by
  subst ho
  funext j
  refine congrArg X (funext (Fin.forall_fin_two.mpr ⟨Fin.ext ?_, Fin.ext ?_⟩))
  · show 0 + 1 * (j 0).val = (j 0).val
    omega
  · show 512 * k + 1 * (j 1).val = 512 * k + (j 1).val
    omega

/-- In the columns put, an array holds what was put. -/
theorem put_cols_in {r n w : ℕ} {α : Type} (off : Fin 2 → ℕ) (o : ℕ) (ho : off = ![0, o]) (W : (⟨2, ![r, w]⟩ : Shape).Idx → α)
    (d : (⟨2, ![r, n]⟩ : Shape).Idx → α) (y : (⟨2, ![r, n]⟩ : Shape).Idx) (h0 : o ≤ (y 1).val) (h1 : (y 1).val < o + w) :
    put (s := ⟨2, ![r, n]⟩) off ![r, w] W d y = W (ix2 (y 0) (⟨(y 1).val - o, by omega⟩ : Fin w)) := by
  subst ho
  unfold put
  rw [dif_pos (Fin.forall_fin_two.mpr ⟨⟨Nat.zero_le _, by show (y 0).val < 0 + r; have h : (y 0).val < r := (y 0).isLt; omega⟩, ⟨h0, h1⟩⟩)]
  exact congrArg W (funext (Fin.forall_fin_two.mpr ⟨Fin.ext (Nat.sub_zero _), Fin.ext rfl⟩))

/-- Outside the columns put, an array holds what it held. -/
theorem put_cols_out {r n w : ℕ} {α : Type} (off : Fin 2 → ℕ) (o : ℕ) (ho : off = ![0, o]) (W : (⟨2, ![r, w]⟩ : Shape).Idx → α)
    (d : (⟨2, ![r, n]⟩ : Shape).Idx → α) (y : (⟨2, ![r, n]⟩ : Shape).Idx) (h : (y 1).val < o ∨ o + w ≤ (y 1).val) :
    put (s := ⟨2, ![r, n]⟩) off ![r, w] W d y = d y := by
  subst ho
  unfold put
  rw [dif_neg]
  intro hall
  have h1 : o ≤ (y 1).val ∧ (y 1).val < o + w := hall 1
  omega

/-! ## What the scratch comes to hold -/

/-- Point `n` of the grid. -/
abbrev pt (n : ℕ) (h : n < 32) : Fin cfg0.N := ⟨n, h.trans_eq N_0.symm⟩

/-- The transposed matrix, block by block. -/
def matT (c : Dev nD) : Vec F S4096x4096 .bf16 := fun y =>
  k0_pay2 (iblk m c 0 (pt ((y 1).val / 256) (by have h : (y 1).val < 4096 := (y 1).isLt; omega)))
    (ix2 (y 0) (⟨(y 1).val % 256, by omega⟩ : Fin 256))

/-- The features, as the scratch holds them. -/
def feat (c : Dev nD) : Vec F S128x4096 .bf16 := k0_pay1 (iblk m c 1 (pt 0 (by omega)))

/-- The first product, block by block. -/
def prodT (c : Dev nD) : Vec F S128x4096 .bf16 := fun y =>
  k0_pay3 (feat m c) (cols (matT m c) ((y 1).val / 512) (by have h : (y 1).val < 4096 := (y 1).isLt; omega))
    (ix2 (y 0) (⟨(y 1).val % 512, by omega⟩ : Fin 512))

/-- Before point `n`: the features are in once a point has run, the matrix in its first `256 n` columns, the product in
    its first `512 (n - 16)`. -/
def Held (c : Dev nD) (n : ℕ) (d0 : Vec F S4096x4096 .bf16) (d1 d2 : Vec F S128x4096 .bf16) : Prop :=
  (1 ≤ n → d2 = feat m c) ∧ (∀ y, (y 1).val < 256 * min n 16 → d0 y = matT m c y)
    ∧ ∀ y, (y 1).val < 512 * (min n 24 - 16) → d1 y = prodT m c y

/-- Nothing is asked of the scratch before the first point. -/
theorem held_zero (c : Dev nD) (d0 : Vec F S4096x4096 .bf16) (d1 d2 : Vec F S128x4096 .bf16) : Held m c 0 d0 d1 d2 :=
  ⟨fun h => absurd h (by omega), fun y h => absurd h (by omega), fun y h => absurd h (by omega)⟩

/-- Once sixteen points have run the whole matrix is in. -/
theorem Held.mat {c : Dev nD} {n : ℕ} {d0 : Vec F S4096x4096 .bf16} {d1 d2 : Vec F S128x4096 .bf16} (h : Held m c n d0 d1 d2) (hn : 16 ≤ n) :
    d0 = matT m c :=
  funext fun y => h.2.1 y (by have hy : (y 1).val < 4096 := (y 1).isLt; omega)

/-- Once twenty-four points have run the whole product is in. -/
theorem Held.prod {c : Dev nD} {n : ℕ} {d0 : Vec F S4096x4096 .bf16} {d1 d2 : Vec F S128x4096 .bf16} (h : Held m c n d0 d1 d2) (hn : 24 ≤ n) :
    d1 = prodT m c :=
  funext fun y => h.2.2 y (by have hy : (y 1).val < 4096 := (y 1).isLt; omega)

/-- A point takes what is held before it to what is held after it. -/
theorem held_succ (c : Dev nD) (t : Fin cfg0.N) (d0 : Vec F S4096x4096 .bf16) (d1 d2 : Vec F S128x4096 .bf16) (h : Held m c t.val d0 d1 d2) :
    Held m c (t.val + 1) (matAfter (grid0.coords t) (iblk m c 0 t) d0) (prodAfter (grid0.coords t) d0 d1 d2)
      (featAfter (grid0.coords t) (iblk m c 1 t) d2) := by
  have hN : t.val < 32 := lt_of_lt_of_eq t.isLt N_0
  refine ⟨fun _ => ?_, fun y hy => ?_, fun y hy => ?_⟩
  · unfold featAfter
    by_cases h0 : t.val = 0
    · rw [if_pos ((start_iff t).mpr h0), feat, show t = pt 0 (by omega) from Fin.ext h0]
    · rw [if_neg (fun hs => h0 ((start_iff t).mp hs))]
      exact h.1 (by omega)
  · unfold matAfter
    by_cases h0 : t.val < 16
    · rw [if_pos ((copy_iff t).mpr h0)]
      by_cases h1 : (y 1).val < 256 * t.val
      · exact (put_cols_out _ _ (off1_at t h0) _ _ y (Or.inl h1)).trans (h.2.1 y (by omega))
      · refine (put_cols_in _ _ (off1_at t h0) _ _ y (by omega) (by omega)).trans ?_
        unfold matT
        have e1 : pt ((y 1).val / 256) (by omega) = t := Fin.ext (by show (y 1).val / 256 = t.val; omega)
        rw [e1]
        exact congrArg _ (congrArg (ix2 (y 0)) (Fin.ext (by show (y 1).val - 256 * t.val = (y 1).val % 256; omega)))
    · rw [if_neg (fun hs => h0 ((copy_iff t).mp hs))]
      exact h.2.1 y (by omega)
  · unfold prodAfter
    by_cases h0 : 16 ≤ t.val ∧ t.val < 24
    · rw [dif_pos ((prod_iff t).mpr h0)]
      by_cases h1 : (y 1).val < 512 * (t.val - 16)
      · exact (put_cols_out _ _ (off3_at t h0) _ _ y (Or.inl h1)).trans (h.2.2 y (by omega))
      · refine (put_cols_in _ _ (off3_at t h0) _ _ y (by omega) (by omega)).trans ?_
        unfold prodT
        have hk : t.val - 16 < 8 := by omega
        have e1 : (y 1).val / 512 = t.val - 16 := by omega
        rw [h.1 (by omega), Held.mat m h (by omega),
          show (View.ld (Val := Elt F) (e' := .bf16) (matT m c) (Rect.unit (s := S4096x4096) (k0_off2 (grid0.coords t)) S4096x512.size
              (k0_off2_inb (grid0.coords t) ((prod_iff t).mpr h0))) : Vec F S4096x512 .bf16)
            = cols (matT m c) ((y 1).val / 512) (by omega) from
            (ld_cols (matT m c) _ _ hk (off2_at t h0) _).trans (cols_congr _ e1.symm _ _)]
        exact congrArg _ (congrArg (ix2 (y 0)) (Fin.ext (by show (y 1).val - 512 * (t.val - 16) = (y 1).val % 512; omega)))
    · rw [dif_neg (fun hs => h0 ((prod_iff t).mp hs))]
      exact h.2.2 y (by omega)

/-! ## What the output blocks come to hold -/

/-- The gates' inputs for the columns that point `t` of the last phase treats. -/
def gates (c : Dev nD) (t : Fin cfg0.N) : Vec F S256x512 .f32 :=
  k0_pay7 (prodT m c) (cols (matT m c) (t.val - 24) (last_lt t)) (cols (r := 128) (iblk m c 1 t) (t.val - 24) (last_lt t)) (iblk m c 3 t)
    (cols (feat m c) (t.val - 24) (last_lt t)) (cols (prodT m c) (t.val - 24) (last_lt t)) (iblk m c 4 t)

/-- The first output's block at point `t` of the last phase. -/
def hnBlock (c : Dev nD) (t : Fin cfg0.N) : Vec F S512x64 .f32 :=
  k0_pay5 (gates m c t) (cols (r := 64) (iblk m c 2 t) (t.val - 24) (last_lt t)) (iblk m c 5 t) (iblk m c 6 t) (iblk m c 7 t)

/-- The second output's block at point `t` of the last phase. -/
def cnBlock (c : Dev nD) (t : Fin cfg0.N) : Vec F S512x64 .f32 :=
  k0_pay6 (gates m c t) (cols (r := 64) (iblk m c 2 t) (t.val - 24) (last_lt t)) (iblk m c 5 t) (iblk m c 6 t)

/-- Equal reads give equal gates' inputs. -/
theorem pay7_congr {a a' : Vec F S128x4096 .bf16} {b b' : Vec F S4096x512 .bf16} {x x' : Vec F S128x512 .f32} (w : Vec F S3x256x128 .f32)
    {p p' q q' : Vec F S128x512 .bf16} (z : Vec F S256x1 .f32) (ha : a = a') (hb : b = b') (hx : x = x') (hp : p = p') (hq : q = q') :
    k0_pay7 a b x w p q z = k0_pay7 a' b' x' w p' q' z := by
  subst ha; subst hb; subst hx; subst hp; subst hq; rfl

/-- A point of the last phase computes the gates' inputs from what is held. -/
theorem preact_eq (c : Dev nD) (t : Fin cfg0.N) (d0 : Vec F S4096x4096 .bf16) (d1 d2 : Vec F S128x4096 .bf16) (h : Held m c t.val d0 d1 d2)
    (hc : k0_cond4 (grid0.coords t) = 1#1) :
    preact (grid0.coords t) hc (iblk m c 1 t) (iblk m c 3 t) (iblk m c 4 t) d0 d1 d2 = gates m c t := by
  have ht : 24 ≤ t.val := (write_iff t).mp hc
  unfold preact gates
  obtain rfl := Held.mat m h (by omega : 16 ≤ t.val)
  obtain rfl := Held.prod m h ht
  obtain rfl := h.1 (by omega)
  exact pay7_congr _ _ rfl (ld_cols (matT m c) _ _ _ (off4_at t ht) _) (ld_cols (r := 128) (e := .f32) (iblk m c 1 t) _ _ _ (off5_at t ht) _)
    (ld_cols (feat m c) _ _ _ (off5_at t ht) _) (ld_cols (prodT m c) _ _ _ (off5_at t ht) _)

/-- A point of the last phase leaves the first output's block. -/
theorem hnAfter_eq (c : Dev nD) (t : Fin cfg0.N) (d0 : Vec F S4096x4096 .bf16) (d1 d2 : Vec F S128x4096 .bf16) (h : Held m c t.val d0 d1 d2)
    (ht : 24 ≤ t.val) (y : Vec F S512x64 .f32) :
    hnAfter (grid0.coords t) (iblk m c 1 t) (iblk m c 2 t) (iblk m c 3 t) (iblk m c 4 t) (iblk m c 5 t) (iblk m c 6 t) (iblk m c 7 t)
      d0 d1 d2 y = hnBlock m c t := by
  unfold hnAfter hnBlock
  rw [dif_pos ((write_iff t).mpr ht), preact_eq m c t d0 d1 d2 h]
  exact congrArg (fun z => k0_pay5 (gates m c t) z (iblk m c 5 t) (iblk m c 6 t) (iblk m c 7 t))
    (ld_cols (r := 64) (e := .f32) (iblk m c 2 t) _ _ _ (off6_at t ht) _)

/-- A point of the last phase leaves the second output's block. -/
theorem cnAfter_eq (c : Dev nD) (t : Fin cfg0.N) (d0 : Vec F S4096x4096 .bf16) (d1 d2 : Vec F S128x4096 .bf16) (h : Held m c t.val d0 d1 d2)
    (ht : 24 ≤ t.val) (y : Vec F S512x64 .f32) :
    cnAfter (grid0.coords t) (iblk m c 1 t) (iblk m c 2 t) (iblk m c 3 t) (iblk m c 4 t) (iblk m c 5 t) (iblk m c 6 t)
      d0 d1 d2 y = cnBlock m c t := by
  unfold cnAfter cnBlock
  rw [dif_pos ((write_iff t).mpr ht), preact_eq m c t d0 d1 d2 h]
  exact congrArg (fun z => k0_pay6 (gates m c t) z (iblk m c 5 t) (iblk m c 6 t))
    (ld_cols (r := 64) (e := .f32) (iblk m c 2 t) _ _ _ (off6_at t ht) _)

/-- Before the last phase a point leaves the first output's block as it was. -/
theorem hnAfter_idle (t : Fin cfg0.N) (ht : ¬24 ≤ t.val) (x1 : Vec F S128x4096 .f32) (x2 : Vec F S64x4096 .f32) (x3 : Vec F S3x256x128 .f32)
    (x4 : Vec F S256x1 .f32) (x5 x6 x7 : Vec F S64x1 .f32) (d0 : Vec F S4096x4096 .bf16) (d1 d2 : Vec F S128x4096 .bf16)
    (y : Vec F S512x64 .f32) : hnAfter (grid0.coords t) x1 x2 x3 x4 x5 x6 x7 d0 d1 d2 y = y := by
  unfold hnAfter
  rw [dif_neg (fun hs => ht ((write_iff t).mp hs))]

/-- Before the last phase a point leaves the second output's block as it was. -/
theorem cnAfter_idle (t : Fin cfg0.N) (ht : ¬24 ≤ t.val) (x1 : Vec F S128x4096 .f32) (x2 : Vec F S64x4096 .f32) (x3 : Vec F S3x256x128 .f32)
    (x4 : Vec F S256x1 .f32) (x5 x6 : Vec F S64x1 .f32) (d0 : Vec F S4096x4096 .bf16) (d1 d2 : Vec F S128x4096 .bf16)
    (y : Vec F S512x64 .f32) : cnAfter (grid0.coords t) x1 x2 x3 x4 x5 x6 d0 d1 d2 y = y := by
  unfold cnAfter
  rw [dif_neg (fun hs => ht ((write_iff t).mp hs))]

/-! ## The launch -/

/-- What is held of the launch before point `n`: the three scratch buffers, at contents of which the above is known, and
    the generator register. -/
def Inv (c : Dev nD) (n : ℕ) : sProp 𝕄 :=
  iprop(∃ d0, ∃ d1, ∃ d2, owns (c : Thread nD τ) (Memref.whole cc0_scratch0) fullShare d0
    ∗ owns (c : Thread nD τ) (Memref.whole cc0_scratch1) fullShare d1
    ∗ owns (c : Thread nD τ) (Memref.whole cc0_scratch2) fullShare d2
    ∗ (∃ r, prngReg c r) ∗ ⌜Held m c n d0 d1 d2⌝)

/-- The proof data: every input block as the arrays hold it, the outputs as the last phase leaves them. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => hnBlock m c t
    | ⟨9, _⟩ => cnBlock m c t
  Φ t := Inv m c t.val
  q _ := fullShare
  owed _ := 0

/-- The arrays are those the launch finds. -/
theorem A_eq (c : Dev nD) (w : Fin cfg0.W) : (dats m 0 c).A w = V m c (Pipeline.arrRef spec0 w) := by
  dsimp only [dats]

/-- The first output's block after point `t`. -/
theorem after_8 (c : Dev nD) (t : Fin cfg0.N) : (dats m 0 c).after 8 t = hnBlock m c t := by dsimp only [dats]
/-- The second output's block after point `t`. -/
theorem after_9 (c : Dev nD) (t : Fin cfg0.N) : (dats m 0 c).after 9 t = cnBlock m c t := by dsimp only [dats]

/-- The scratch buffers and the generator register, each at something. -/
theorem scratch_eq (c : Dev nD) :
    (Pipeline.ΦA spec0 c : sProp 𝕄)
      = iprop(iprop((∃ d, owns (c : Thread nD τ) (Memref.whole cc0_scratch0) fullShare d)
          ∗ (∃ d, owns (c : Thread nD τ) (Memref.whole cc0_scratch1) fullShare d)
          ∗ (∃ d, owns (c : Thread nD τ) (Memref.whole cc0_scratch2) fullShare d)) ∗ (∃ r, prngReg c r)) := by
  unfold Pipeline.ΦA; rw [scopedRest0_eq]; simp only [owns_whole]; try rfl

/-- The launch starts with what is held before the first point. -/
theorem inv_in (c : Dev nD) : Pipeline.ΦA spec0 c ⊢ (dats m 0 c).Φ 0 := by
  rw [show (dats m 0 c).Φ 0 = Inv m c 0 from rfl, scratch_eq]
  unfold Inv
  iintro ⟨⟨⟨%d0, S0⟩, ⟨%d1, S1⟩, ⟨%d2, S2⟩⟩, Hg⟩
  iexists d0; iexists d1; iexists d2
  isplitl [S0]; · iexact S0
  isplitl [S1]; · iexact S1
  isplitl [S2]; · iexact S2
  isplitl [Hg]; · iexact Hg
  ipureintro
  exact held_zero m c d0 d1 d2

/-- The launch ends with the scratch at something. -/
theorem inv_out (c : Dev nD) : (dats m 0 c).Φ (Fin.last cfg0.N) ⊢ Pipeline.ΦA spec0 c := by
  rw [show (dats m 0 c).Φ (Fin.last cfg0.N) = Inv m c (Fin.last cfg0.N).val from rfl, scratch_eq]
  unfold Inv
  iintro ⟨%d0, %d1, %d2, S0, S1, S2, Hg, -⟩
  isplitl [S0 S1 S2]
  · isplitl [S0]; · iexists _; iexact S0
    isplitl [S1]; · iexists _; iexact S1
    iexists _; iexact S2
  iexact Hg

/-! Each input's staging buffer holds the input's block at every point, and is left holding it. -/
/-- Input 0's staging buffer holds the input's block at every point. -/
theorem before_0 (c : Dev nD) (t : Fin cfg0.N) (d) : (dats m 0 c).before 0 t d = iblk m c 0 t :=
  before0_0_of m (dats m 0 c) (A_eq m c 0) (fun _ => by dsimp only [dats]) t d
/-- Input 1's staging buffer holds the input's block at every point. -/
theorem before_1 (c : Dev nD) (t : Fin cfg0.N) (d) : (dats m 0 c).before 1 t d = iblk m c 1 t :=
  before0_1_of m (dats m 0 c) (A_eq m c 1) (fun _ => by dsimp only [dats]) t d
/-- Input 2's staging buffer holds the input's block at every point. -/
theorem before_2 (c : Dev nD) (t : Fin cfg0.N) (d) : (dats m 0 c).before 2 t d = iblk m c 2 t :=
  before0_2_of m (dats m 0 c) (A_eq m c 2) (fun _ => by dsimp only [dats]) t d
/-- Input 3's staging buffer holds the input's block at every point. -/
theorem before_3 (c : Dev nD) (t : Fin cfg0.N) (d) : (dats m 0 c).before 3 t d = iblk m c 3 t :=
  before0_3_of m (dats m 0 c) (A_eq m c 3) (fun _ => by dsimp only [dats]) t d
/-- Input 4's staging buffer holds the input's block at every point. -/
theorem before_4 (c : Dev nD) (t : Fin cfg0.N) (d) : (dats m 0 c).before 4 t d = iblk m c 4 t :=
  before0_4_of m (dats m 0 c) (A_eq m c 4) (fun _ => by dsimp only [dats]) t d
/-- Input 5's staging buffer holds the input's block at every point. -/
theorem before_5 (c : Dev nD) (t : Fin cfg0.N) (d) : (dats m 0 c).before 5 t d = iblk m c 5 t :=
  before0_5_of m (dats m 0 c) (A_eq m c 5) (fun _ => by dsimp only [dats]) t d
/-- Input 6's staging buffer holds the input's block at every point. -/
theorem before_6 (c : Dev nD) (t : Fin cfg0.N) (d) : (dats m 0 c).before 6 t d = iblk m c 6 t :=
  before0_6_of m (dats m 0 c) (A_eq m c 6) (fun _ => by dsimp only [dats]) t d
/-- Input 7's staging buffer holds the input's block at every point. -/
theorem before_7 (c : Dev nD) (t : Fin cfg0.N) (d) : (dats m 0 c).before 7 t d = iblk m c 7 t :=
  before0_7_of m (dats m 0 c) (A_eq m c 7) (fun _ => by dsimp only [dats]) t d
/-- The body leaves the block of input 0 in its staging buffer. -/
theorem leaves_0 (c : Dev nD) (t : Fin cfg0.N) :
    (dats m 0 c).leavesExact 0 t = owns (c : Thread nD τ) (st0_0 t) fullShare (iblk m c 0 t) := by
  unfold Dat.leavesExact; rw [show cfg0.idle 0 (cfg0.grid.coords t) = false from rfl]; dsimp only [dats]
/-- The body leaves the block of input 1 in its staging buffer. -/
theorem leaves_1 (c : Dev nD) (t : Fin cfg0.N) :
    (dats m 0 c).leavesExact 1 t = owns (c : Thread nD τ) (st0_1 t) fullShare (iblk m c 1 t) := by
  unfold Dat.leavesExact; rw [show cfg0.idle 1 (cfg0.grid.coords t) = false from rfl]; dsimp only [dats]
/-- The body leaves the block of input 2 in its staging buffer. -/
theorem leaves_2 (c : Dev nD) (t : Fin cfg0.N) :
    (dats m 0 c).leavesExact 2 t = owns (c : Thread nD τ) (st0_2 t) fullShare (iblk m c 2 t) := by
  unfold Dat.leavesExact; rw [show cfg0.idle 2 (cfg0.grid.coords t) = false from rfl]; dsimp only [dats]
/-- The body leaves the block of input 3 in its staging buffer. -/
theorem leaves_3 (c : Dev nD) (t : Fin cfg0.N) :
    (dats m 0 c).leavesExact 3 t = owns (c : Thread nD τ) (st0_3 t) fullShare (iblk m c 3 t) := by
  unfold Dat.leavesExact; rw [show cfg0.idle 3 (cfg0.grid.coords t) = false from rfl]; dsimp only [dats]
/-- The body leaves the block of input 4 in its staging buffer. -/
theorem leaves_4 (c : Dev nD) (t : Fin cfg0.N) :
    (dats m 0 c).leavesExact 4 t = owns (c : Thread nD τ) (st0_4 t) fullShare (iblk m c 4 t) := by
  unfold Dat.leavesExact; rw [show cfg0.idle 4 (cfg0.grid.coords t) = false from rfl]; dsimp only [dats]
/-- The body leaves the block of input 5 in its staging buffer. -/
theorem leaves_5 (c : Dev nD) (t : Fin cfg0.N) :
    (dats m 0 c).leavesExact 5 t = owns (c : Thread nD τ) (st0_5 t) fullShare (iblk m c 5 t) := by
  unfold Dat.leavesExact; rw [show cfg0.idle 5 (cfg0.grid.coords t) = false from rfl]; dsimp only [dats]
/-- The body leaves the block of input 6 in its staging buffer. -/
theorem leaves_6 (c : Dev nD) (t : Fin cfg0.N) :
    (dats m 0 c).leavesExact 6 t = owns (c : Thread nD τ) (st0_6 t) fullShare (iblk m c 6 t) := by
  unfold Dat.leavesExact; rw [show cfg0.idle 6 (cfg0.grid.coords t) = false from rfl]; dsimp only [dats]
/-- The body leaves the block of input 7 in its staging buffer. -/
theorem leaves_7 (c : Dev nD) (t : Fin cfg0.N) :
    (dats m 0 c).leavesExact 7 t = owns (c : Thread nD τ) (st0_7 t) fullShare (iblk m c 7 t) := by
  unfold Dat.leavesExact; rw [show cfg0.idle 7 (cfg0.grid.coords t) = false from rfl]; dsimp only [dats]

/-- In the last phase the first output's buffer is left holding its block. -/
theorem leaves_8_last (c : Dev nD) (t : Fin cfg0.N) (ht : 24 ≤ t.val) :
    (dats m 0 c).leavesExact 8 t = owns (c : Thread nD τ) (st0_8 t) fullShare (hnBlock m c t) := by
  unfold Dat.leavesExact
  rw [show cfg0.idle 8 (cfg0.grid.coords t) = false from (by decide +kernel : ∀ t : Fin cfg0.N, 24 ≤ t.val → cfg0.idle 8 (grid0.coords t) = false) t ht]
  dsimp only [dats]

/-- Before it the first output's buffer is left as it was found. -/
theorem leaves_8_idle (c : Dev nD) (t : Fin cfg0.N) (ht : ¬24 ≤ t.val) :
    (dats m 0 c).leavesExact 8 t = iprop(∃ d, owns (c : Thread nD τ) (st0_8 t) fullShare ((dats m 0 c).before 8 t d)) :=
  Dat.leavesExact_idle (dats m 0 c) 8 t
    ((by decide +kernel : ∀ t : Fin cfg0.N, ¬24 ≤ t.val → cfg0.idle 8 (grid0.coords t) = true) t ht)
    ((by decide +kernel : ∀ t : Fin cfg0.N, ¬24 ≤ t.val → (cfg0.win 8).flush t = false) t ht)

/-- In the last phase the second output's buffer is left holding its block. -/
theorem leaves_9_last (c : Dev nD) (t : Fin cfg0.N) (ht : 24 ≤ t.val) :
    (dats m 0 c).leavesExact 9 t = owns (c : Thread nD τ) (st0_9 t) fullShare (cnBlock m c t) := by
  unfold Dat.leavesExact
  rw [show cfg0.idle 9 (cfg0.grid.coords t) = false from (by decide +kernel : ∀ t : Fin cfg0.N, 24 ≤ t.val → cfg0.idle 9 (grid0.coords t) = false) t ht]
  dsimp only [dats]

/-- Before it the second output's buffer is left as it was found. -/
theorem leaves_9_idle (c : Dev nD) (t : Fin cfg0.N) (ht : ¬24 ≤ t.val) :
    (dats m 0 c).leavesExact 9 t = iprop(∃ d, owns (c : Thread nD τ) (st0_9 t) fullShare ((dats m 0 c).before 9 t d)) :=
  Dat.leavesExact_idle (dats m 0 c) 9 t
    ((by decide +kernel : ∀ t : Fin cfg0.N, ¬24 ≤ t.val → cfg0.idle 9 (grid0.coords t) = true) t ht)
    ((by decide +kernel : ∀ t : Fin cfg0.N, ¬24 ≤ t.val → (cfg0.win 9).flush t = false) t ht)

/-- What the body starts a point with. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d)))

/-- What it leaves. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t)

set_option maxHeartbeats 4000000 in
/-- The body at a point of the grid. -/
theorem body_point (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7,
    leaves_0, leaves_1, leaves_2, leaves_3, leaves_4, leaves_5, leaves_6, leaves_7]
  rw [show (dats m 0 c).owesAt () t.succ = (dats m 0 c).owesAt () t.castSucc from rfl,
    show (dats m 0 c).Φ t.succ = Inv m c (t.val + 1) from rfl, show (dats m 0 c).Φ t.castSucc = Inv m c t.val from rfl]
  unfold Inv
  by_cases ht : 24 ≤ t.val
  · rw [leaves_8_last m c t ht, leaves_9_last m c t ht]
    iintro ⟨⟨%s0, %s1, %s2, S0, S1, S2, Hg, %hheld⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (body_stores c (grid0.coords t) _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t)
      ((dats m 0 c).before 8 t d8) ((dats m 0 c).before 9 t d9) s0 s1 s2 (phases t) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [S0]; · iexact S0
    isplitl [S1]; · iexact S1
    isplitl [S2]; · iexact S2
    rw [hnAfter_eq m c t s0 s1 s2 hheld ht, cnAfter_eq m c t s0 s1 s2 hheld ht]
    iintro ⟨H0, H1, H2, H3, H4, H5, H6, H7, H8, H9, S0, S1, S2⟩
    isplitl [S0 S1 S2 Hg]
    · iexists _; iexists _; iexists _
      isplitl [S0]; · iexact S0
      isplitl [S1]; · iexact S1
      isplitl [S2]; · iexact S2
      isplitl [Hg]; · iexact Hg
      ipureintro
      exact held_succ m c t s0 s1 s2 hheld
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  · rw [leaves_8_idle m c t ht, leaves_9_idle m c t ht]
    iintro ⟨⟨%s0, %s1, %s2, S0, S1, S2, Hg, %hheld⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (body_stores c (grid0.coords t) _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t)
      ((dats m 0 c).before 8 t d8) ((dats m 0 c).before 9 t d9) s0 s1 s2 (phases t) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [S0]; · iexact S0
    isplitl [S1]; · iexact S1
    isplitl [S2]; · iexact S2
    rw [hnAfter_idle t ht, cnAfter_idle t ht]
    iintro ⟨H0, H1, H2, H3, H4, H5, H6, H7, H8, H9, S0, S1, S2⟩
    isplitl [S0 S1 S2 Hg]
    · iexists _; iexists _; iexists _
      isplitl [S0]; · iexact S0
      isplitl [S1]; · iexact S1
      isplitl [S2]; · iexact S2
      isplitl [Hg]; · iexact Hg
      ipureintro
      exact held_succ m c t s0 s1 s2 hheld
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    iexists _; iexact H9

/-- The body meets its obligation at every point of the grid. -/
theorem body_ok (c : Dev nD) :
    BodyObligation (dats (F := F) m 0 c) (defs₀ (F := F)) Variants.none () Set.univ := fun t => by
  rw [bigSep_W0, bigSep_W0, show defs₀ (F := F) .tc cfg0.body (cfg0.bodyArgs t (cfg0.slots t)) = bodyAt0 t from by
    unfold defs₀; rw [Defs.onTc_tc]]
  exact triple_restated (body_point m c t) rfl .rfl fun _ => .rfl

set_option backward.isDefEq.respectTransparency.types false in
/-- The run: it ends with the arrays at what the blocks written back make of them, every other buffer as the launch found
    it, and every counter at zero. -/
theorem run_ends : θ_run defs (onTc (τ := τ) (main (F := F))) (s₀ m ρ)
    (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_ok m c).loose) (hshare := fun c => (dats m 0 c).share_full fun _ => rfl)
    (howed := fun _ _ => rfl) (V := V m) (hmain := hmain m Variants.none) (hA := A_eq m) (hin := inv_in m) (hout := inv_out m)

set_option maxHeartbeats 1600000 in
/-- Every argument ends as it was. -/
theorem kept (r) (h : Pipeline.FramePost cfgs (dats m) 0 (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26) :=
  ⟨((h c).2 main_arg0 (Pipeline.mem_restRefs_of main_arg0 (by decide) (by decide))).trans (V_main_arg0 m c),
      ((h c).1 0).trans (((dats m 0 c).arrAt_in 0 rfl _).trans ((A_eq m c 0).trans (V_main_arg1 m c))),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c),
      ((h c).2 main_arg15 (Pipeline.mem_restRefs_of main_arg15 (by decide) (by decide))).trans (V_main_arg15 m c),
      ((h c).2 main_arg16 (Pipeline.mem_restRefs_of main_arg16 (by decide) (by decide))).trans (V_main_arg16 m c),
      ((h c).2 main_arg17 (Pipeline.mem_restRefs_of main_arg17 (by decide) (by decide))).trans (V_main_arg17 m c),
      ((h c).2 main_arg18 (Pipeline.mem_restRefs_of main_arg18 (by decide) (by decide))).trans (V_main_arg18 m c),
      ((h c).2 main_arg19 (Pipeline.mem_restRefs_of main_arg19 (by decide) (by decide))).trans (V_main_arg19 m c),
      ((h c).2 main_arg20 (Pipeline.mem_restRefs_of main_arg20 (by decide) (by decide))).trans (V_main_arg20 m c),
      ((h c).2 main_arg21 (Pipeline.mem_restRefs_of main_arg21 (by decide) (by decide))).trans (V_main_arg21 m c),
      ((h c).2 main_arg22 (Pipeline.mem_restRefs_of main_arg22 (by decide) (by decide))).trans (V_main_arg22 m c),
      ((h c).2 main_arg23 (Pipeline.mem_restRefs_of main_arg23 (by decide) (by decide))).trans (V_main_arg23 m c),
      ((h c).2 main_arg24 (Pipeline.mem_restRefs_of main_arg24 (by decide) (by decide))).trans (V_main_arg24 m c),
      ((h c).2 main_arg25 (Pipeline.mem_restRefs_of main_arg25 (by decide) (by decide))).trans (V_main_arg25 m c),
      ((h c).2 main_arg26 (Pipeline.mem_restRefs_of main_arg26 (by decide) (by decide))).trans (V_main_arg26 m c)⟩

/-- The frame of the kernel, at any values. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26))
      ∧ r.2.sem = fun _ => 0) :=
  (θ_run defs _ _).mono (fun r h => ⟨kept m r h.1, h.2⟩) (run_ends m ρ)

end Cert.KernelIdeal.Fused
-- ==== Proof.Cell.lean ====
/- The recurrent cell in exact arithmetic, entry by entry: the Chebyshev convolution over a graph, the four gates, the new
   state and the new output. Both programs are shown to compute these. Nothing here speaks of a program. -/
module

public import Idealize.ShloMosaic.Lib.Pointwise

@[expose] public section

set_option maxRecDepth 16384

noncomputable section

namespace Cert.Cell

open Idealize.ShloMosaic

/-- An array over the 4096 nodes and 64 features. -/
abbrev Nodes : Shape := ⟨2, ![4096, 64]⟩
/-- The graph's matrix. -/
abbrev Graph : Shape := ⟨2, ![4096, 4096]⟩
/-- The weights of a convolution with three terms. -/
abbrev Weights : Shape := ⟨3, ![3, 64, 64]⟩
/-- A bias of a convolution. -/
abbrev Bias : Shape := ⟨1, ![64]⟩
/-- A row: a weight or a bias of a gate. -/
abbrev Row : Shape := ⟨2, ![1, 64]⟩

/-- The constant two of the recurrence. -/
def two : EReal := Ideal.ofBits FTy.f32 0x40000000#32

variable (L : Vec Ideal Graph .f32) (T X H : Vec Ideal Nodes .f32) (W Wx Wh : Vec Ideal Weights .f32)

/-- The first term of a convolution. -/
def term0 (n : Fin 4096) (f : Fin 64) : EReal := ∑ k : Fin 64, T (ix2 n k) * W (ix3 0 k f)

/-- The second term: the graph applied once. -/
def term1 (n : Fin 4096) (f : Fin 64) : EReal :=
  ∑ k : Fin 64, (∑ y : Fin 4096, L (ix2 n y) * T (ix2 y k)) * W (ix3 1 k f)

/-- The third term: twice the graph applied twice, less the start. -/
def term2 (n : Fin 4096) (f : Fin 64) : EReal :=
  ∑ k : Fin 64, (two * (∑ y : Fin 4096, L (ix2 n y) * ∑ z : Fin 4096, L (ix2 y z) * T (ix2 z k)) - T (ix2 n k)) * W (ix3 2 k f)

/-- A convolution without its bias. -/
def conv (n : Fin 4096) (f : Fin 64) : EReal := term0 T W n f + term1 L T W n f + term2 L T W n f

/-- What a gate takes of the two convolutions. -/
def gate (bx bh : Vec Ideal Bias .f32) (n : Fin 4096) (f : Fin 64) : EReal :=
  (conv L X Wx n f + bx (ix1 f)) + (conv L H Wh n f + bh (ix1 f))

/-- The arguments of the cell. -/
structure Args where
  X : Vec Ideal Nodes .f32
  L : Vec Ideal Graph .f32
  H : Vec Ideal Nodes .f32
  C : Vec Ideal Nodes .f32
  Wxi : Vec Ideal Weights .f32
  bxi : Vec Ideal Bias .f32
  Whi : Vec Ideal Weights .f32
  bhi : Vec Ideal Bias .f32
  Wxf : Vec Ideal Weights .f32
  bxf : Vec Ideal Bias .f32
  Whf : Vec Ideal Weights .f32
  bhf : Vec Ideal Bias .f32
  Wxc : Vec Ideal Weights .f32
  bxc : Vec Ideal Bias .f32
  Whc : Vec Ideal Weights .f32
  bhc : Vec Ideal Bias .f32
  Wxo : Vec Ideal Weights .f32
  bxo : Vec Ideal Bias .f32
  Who : Vec Ideal Weights .f32
  bho : Vec Ideal Bias .f32
  pi : Vec Ideal Row .f32
  pf : Vec Ideal Row .f32
  po : Vec Ideal Row .f32
  bi : Vec Ideal Row .f32
  bf : Vec Ideal Row .f32
  bc : Vec Ideal Row .f32
  bo : Vec Ideal Row .f32

variable (a : Args) (n : Fin 4096) (f : Fin 64)

/-- The input gate. -/
def inGate : EReal :=
  Ideal.logistic (gate a.L a.X a.H a.Wxi a.Whi a.bxi a.bhi n f + a.pi (ix2 0 f) * a.C (ix2 n f) + a.bi (ix2 0 f))

/-- The forget gate. -/
def forgetGate : EReal :=
  Ideal.logistic (gate a.L a.X a.H a.Wxf a.Whf a.bxf a.bhf n f + a.pf (ix2 0 f) * a.C (ix2 n f) + a.bf (ix2 0 f))

/-- The candidate. -/
def candidate : EReal := Ideal.tanh (gate a.L a.X a.H a.Wxc a.Whc a.bxc a.bhc n f + a.bc (ix2 0 f))

/-- The new state. -/
def state : EReal := forgetGate a n f * a.C (ix2 n f) + inGate a n f * candidate a n f

/-- The output gate, which sees the new state. -/
def outGate : EReal :=
  Ideal.logistic (gate a.L a.X a.H a.Wxo a.Who a.bxo a.bho n f + a.po (ix2 0 f) * state a n f + a.bo (ix2 0 f))

/-- The new output. -/
def hidden : EReal := outGate a n f * Ideal.tanh (state a n f)

/-! ## The convolutions taken together -/

/-- The first term with its factors in the other order. -/
theorem term0_swap : ∑ k : Fin 64, W (ix3 0 k f) * T (ix2 n k) = term0 T W n f :=
  Finset.sum_congr rfl fun _ _ => mul_comm _ _

/-- The second term with its factors in the other order. -/
theorem term1_swap : ∑ k : Fin 64, W (ix3 1 k f) * ∑ y : Fin 4096, T (ix2 y k) * L (ix2 n y) = term1 L T W n f :=
  Finset.sum_congr rfl fun _ _ => (mul_comm _ _).trans
    (congrArg₂ (· * ·) (Finset.sum_congr rfl fun _ _ => mul_comm _ _) rfl)

/-- The third term with its factors in the other order. -/
theorem term2_swap :
    ∑ k : Fin 64, W (ix3 2 k f) * (two * (∑ y : Fin 4096, (∑ z : Fin 4096, T (ix2 z k) * L (ix2 y z)) * L (ix2 n y)) - T (ix2 n k))
      = term2 L T W n f :=
  Finset.sum_congr rfl fun _ _ => (mul_comm _ _).trans
    (congrArg₂ (· * ·) (congrArg₂ (· - ·) (congrArg (two * ·) (Finset.sum_congr rfl fun _ _ => (mul_comm _ _).trans
      (congrArg₂ (· * ·) rfl (Finset.sum_congr rfl fun _ _ => mul_comm _ _)))) rfl) rfl)

/-- The two convolutions of a gate as one over 128 features: the inputs stacked on the state, the weights likewise. -/
theorem conv_stacked (XH : Vec Ideal ⟨2, ![128, 4096]⟩ .f32) (V : Vec Ideal ⟨3, ![3, 256, 128]⟩ .f32) (g : Fin 256)
    (hX : ∀ (k : Fin 64) (n : Fin 4096), XH (ix2 (⟨k.val, by omega⟩ : Fin 128) n) = X (ix2 n k))
    (hH : ∀ (k : Fin 64) (n : Fin 4096), XH (ix2 (⟨64 + k.val, by omega⟩ : Fin 128) n) = H (ix2 n k))
    (hWx : ∀ (a : Fin 3) (k : Fin 64), V (ix3 a g (⟨k.val, by omega⟩ : Fin 128)) = Wx (ix3 a k f))
    (hWh : ∀ (a : Fin 3) (k : Fin 64), V (ix3 a g (⟨64 + k.val, by omega⟩ : Fin 128)) = Wh (ix3 a k f)) :
    ((∑ k : Fin 128, V (ix3 0 g k) * XH (ix2 k n))
        + (∑ k : Fin 128, V (ix3 1 g k) * ∑ y : Fin 4096, XH (ix2 k y) * L (ix2 n y))
        + (∑ k : Fin 128, V (ix3 2 g k)
            * (two * (∑ y : Fin 4096, (∑ z : Fin 4096, XH (ix2 k z) * L (ix2 y z)) * L (ix2 n y)) - XH (ix2 k n))) : EReal)
      = conv L X Wx n f + conv L H Wh n f := by
  rw [Fin.sum_univ_two_halves 64 64 rfl fun k : Fin 128 => (V (ix3 0 g k) * XH (ix2 k n) : EReal),
    Fin.sum_univ_two_halves 64 64 rfl fun k : Fin 128 => (V (ix3 1 g k) * ∑ y : Fin 4096, XH (ix2 k y) * L (ix2 n y) : EReal),
    Fin.sum_univ_two_halves 64 64 rfl fun k : Fin 128 => (V (ix3 2 g k)
            * (two * (∑ y : Fin 4096, (∑ z : Fin 4096, XH (ix2 k z) * L (ix2 y z)) * L (ix2 n y)) - XH (ix2 k n)) : EReal)]
  simp only [hX, hH, hWx, hWh]
  rw [term0_swap, term0_swap, term1_swap, term1_swap, term2_swap, term2_swap]
  unfold conv
  abel

/-- A gate's biases may be added together, and before the old state's share. -/
theorem gate_eq (bx bh : Vec Ideal Bias .f32) (b p : EReal) :
    conv L X Wx n f + conv L H Wh n f + (bx (ix1 f) + bh (ix1 f) + b) + p = gate L X H Wx Wh bx bh n f + p + b := by
  unfold gate
  generalize (bx (ix1 f) : EReal) = u, (bh (ix1 f) : EReal) = v
  abel

/-- A gate's biases may be added together. -/
theorem gate_eq' (bx bh : Vec Ideal Bias .f32) (b : EReal) :
    conv L X Wx n f + conv L H Wh n f + (bx (ix1 f) + bh (ix1 f) + b) = gate L X H Wx Wh bx bh n f + b := by
  unfold gate
  generalize (bx (ix1 f) : EReal) = u, (bh (ix1 f) : EReal) = v
  abel

end Cert.Cell

end
-- ==== Proof.IdealValue.lean ====
/- What the kernel returns: the recurrent cell of its arguments, entry by entry. -/
module

public import proofs.«01_k».proof.Proof.IdealRun
public import proofs.«01_k».proof.Proof.Cell
public import Idealize.ShloMosaic.Lib.Pipeline.ValueKit
public import Idealize.ShloMosaic.Lib.Tactic.CleanTypes

@[expose] public section

set_option maxRecDepth 16384

noncomputable section

namespace Cert.KernelIdeal.Fused

open Idealize.ShloMosaic Idealize.ShloMosaic.TcCoe Idealize.SL.Sem Cert.KernelIdeal.Gen
open Idealize.ShloMosaic.Pipeline (Dat Cfg Window)

variable (m : (ℓ : Loc nD τ sig) → Buf (Elt Ideal) ℓ) (ρ : Dev nD → PrngReg) (c : Dev nD)

/-- The arguments, by name. -/
def args : Cert.Cell.Args where
  X := m ((c.tc : Thread nD τ).loc main_arg0)
  L := m ((c.tc : Thread nD τ).loc main_arg1)
  H := m ((c.tc : Thread nD τ).loc main_arg2)
  C := m ((c.tc : Thread nD τ).loc main_arg3)
  Wxi := m ((c.tc : Thread nD τ).loc main_arg4)
  bxi := m ((c.tc : Thread nD τ).loc main_arg5)
  Whi := m ((c.tc : Thread nD τ).loc main_arg6)
  bhi := m ((c.tc : Thread nD τ).loc main_arg7)
  Wxf := m ((c.tc : Thread nD τ).loc main_arg8)
  bxf := m ((c.tc : Thread nD τ).loc main_arg9)
  Whf := m ((c.tc : Thread nD τ).loc main_arg10)
  bhf := m ((c.tc : Thread nD τ).loc main_arg11)
  Wxc := m ((c.tc : Thread nD τ).loc main_arg12)
  bxc := m ((c.tc : Thread nD τ).loc main_arg13)
  Whc := m ((c.tc : Thread nD τ).loc main_arg14)
  bhc := m ((c.tc : Thread nD τ).loc main_arg15)
  Wxo := m ((c.tc : Thread nD τ).loc main_arg16)
  bxo := m ((c.tc : Thread nD τ).loc main_arg17)
  Who := m ((c.tc : Thread nD τ).loc main_arg18)
  bho := m ((c.tc : Thread nD τ).loc main_arg19)
  pi := m ((c.tc : Thread nD τ).loc main_arg20)
  pf := m ((c.tc : Thread nD τ).loc main_arg21)
  po := m ((c.tc : Thread nD τ).loc main_arg22)
  bi := m ((c.tc : Thread nD τ).loc main_arg23)
  bf := m ((c.tc : Thread nD τ).loc main_arg24)
  bc := m ((c.tc : Thread nD τ).loc main_arg25)
  bo := m ((c.tc : Thread nD τ).loc main_arg26)

/-! ## The operands the host prepares -/

/-- The inputs stacked on the state, transposed. -/
def xh : Vec Ideal S128x4096 .f32 := V m c main_v1
/-- The weights of the four gates side by side, transposed. -/
def wt : Vec Ideal S3x256x128 .f32 := V m c main_v5
/-- The biases of the four gates, one column. -/
def bias : Vec Ideal S256x1 .f32 := V m c main_v19
/-- The old state, transposed. -/
def ct : Vec Ideal S64x4096 .f32 := V m c main_v20

/-- The first 64 rows of the features are the inputs. -/
theorem xh_input (k : Fin 64) (n : Fin 4096) :
    xh m c (ix2 (⟨k.val, by omega⟩ : Fin 128) n) = (args m c).X (ix2 n k) := by
  unfold xh
  entry_read
  pointwise
  rfl

/-- The last 64 rows of the features are the old output. -/
theorem xh_hidden (k : Fin 64) (n : Fin 4096) :
    xh m c (ix2 (⟨64 + k.val, by omega⟩ : Fin 128) n) = (args m c).H (ix2 n k) := by
  unfold xh
  entry_read
  pointwise
  rfl

/-- The weights, entry by entry. -/
theorem wt_read (a : Fin 3) (g : Fin 256) (k : Fin 128) :
    wt m c (ix3 a g k) =
      if hk : k.val < 64 then
        if h : g.val < 64 then (args m c).Wxi (ix3 a (⟨k.val, hk⟩ : Fin 64) (⟨g.val, h⟩ : Fin 64))
        else if h : g.val - 64 < 64 then (args m c).Wxf (ix3 a (⟨k.val, hk⟩ : Fin 64) (⟨g.val - 64, h⟩ : Fin 64))
        else if h : g.val - 64 - 64 < 64 then (args m c).Wxc (ix3 a (⟨k.val, hk⟩ : Fin 64) (⟨g.val - 64 - 64, h⟩ : Fin 64))
        else (args m c).Wxo (ix3 a (⟨k.val, hk⟩ : Fin 64) (⟨g.val - 64 - 64 - 64, by omega⟩ : Fin 64))
      else
        if h : g.val < 64 then (args m c).Whi (ix3 a (⟨k.val - 64, by omega⟩ : Fin 64) (⟨g.val, h⟩ : Fin 64))
        else if h : g.val - 64 < 64 then (args m c).Whf (ix3 a (⟨k.val - 64, by omega⟩ : Fin 64) (⟨g.val - 64, h⟩ : Fin 64))
        else if h : g.val - 64 - 64 < 64 then (args m c).Whc (ix3 a (⟨k.val - 64, by omega⟩ : Fin 64) (⟨g.val - 64 - 64, h⟩ : Fin 64))
        else (args m c).Who (ix3 a (⟨k.val - 64, by omega⟩ : Fin 64) (⟨g.val - 64 - 64 - 64, by omega⟩ : Fin 64)) := by
  unfold wt
  entry_read
  pointwise
  rfl

/-- The input gate's weights for the inputs. -/
theorem wt_xi (a : Fin 3) (f k : Fin 64) :
    wt m c (ix3 a (⟨f.val, by omega⟩ : Fin 256) (⟨k.val, by omega⟩ : Fin 128)) = (args m c).Wxi (ix3 a k f) := by
  rw [wt_read, dif_pos (show k.val < 64 by omega), dif_pos (show f.val < 64 by omega)]

/-- The input gate's weights for the old output. -/
theorem wt_hi (a : Fin 3) (f k : Fin 64) :
    wt m c (ix3 a (⟨f.val, by omega⟩ : Fin 256) (⟨64 + k.val, by omega⟩ : Fin 128)) = (args m c).Whi (ix3 a k f) := by
  rw [wt_read, dif_neg (show ¬64 + k.val < 64 by omega), dif_pos (show f.val < 64 by omega)]
  exact congrArg₂ (fun u v => (args m c).Whi (ix3 a u v)) (Fin.ext (show 64 + k.val - 64 = k.val by omega)) (Fin.ext (show f.val = f.val by omega))

/-- The forget gate's weights for the inputs. -/
theorem wt_xf (a : Fin 3) (f k : Fin 64) :
    wt m c (ix3 a (⟨64 + f.val, by omega⟩ : Fin 256) (⟨k.val, by omega⟩ : Fin 128)) = (args m c).Wxf (ix3 a k f) := by
  rw [wt_read, dif_pos (show k.val < 64 by omega), dif_neg (show ¬64 + f.val < 64 by omega), dif_pos (show 64 + f.val - 64 < 64 by omega)]
  exact congrArg₂ (fun u v => (args m c).Wxf (ix3 a u v)) (Fin.ext (show k.val = k.val by omega)) (Fin.ext (show 64 + f.val - 64 = f.val by omega))

/-- The forget gate's weights for the old output. -/
theorem wt_hf (a : Fin 3) (f k : Fin 64) :
    wt m c (ix3 a (⟨64 + f.val, by omega⟩ : Fin 256) (⟨64 + k.val, by omega⟩ : Fin 128)) = (args m c).Whf (ix3 a k f) := by
  rw [wt_read, dif_neg (show ¬64 + k.val < 64 by omega), dif_neg (show ¬64 + f.val < 64 by omega), dif_pos (show 64 + f.val - 64 < 64 by omega)]
  exact congrArg₂ (fun u v => (args m c).Whf (ix3 a u v)) (Fin.ext (show 64 + k.val - 64 = k.val by omega)) (Fin.ext (show 64 + f.val - 64 = f.val by omega))

/-- The candidate gate's weights for the inputs. -/
theorem wt_xc (a : Fin 3) (f k : Fin 64) :
    wt m c (ix3 a (⟨128 + f.val, by omega⟩ : Fin 256) (⟨k.val, by omega⟩ : Fin 128)) = (args m c).Wxc (ix3 a k f) := by
  rw [wt_read, dif_pos (show k.val < 64 by omega), dif_neg (show ¬128 + f.val < 64 by omega), dif_neg (show ¬128 + f.val - 64 < 64 by omega), dif_pos (show 128 + f.val - 64 - 64 < 64 by omega)]
  exact congrArg₂ (fun u v => (args m c).Wxc (ix3 a u v)) (Fin.ext (show k.val = k.val by omega)) (Fin.ext (show 128 + f.val - 64 - 64 = f.val by omega))

/-- The candidate gate's weights for the old output. -/
theorem wt_hc (a : Fin 3) (f k : Fin 64) :
    wt m c (ix3 a (⟨128 + f.val, by omega⟩ : Fin 256) (⟨64 + k.val, by omega⟩ : Fin 128)) = (args m c).Whc (ix3 a k f) := by
  rw [wt_read, dif_neg (show ¬64 + k.val < 64 by omega), dif_neg (show ¬128 + f.val < 64 by omega), dif_neg (show ¬128 + f.val - 64 < 64 by omega), dif_pos (show 128 + f.val - 64 - 64 < 64 by omega)]
  exact congrArg₂ (fun u v => (args m c).Whc (ix3 a u v)) (Fin.ext (show 64 + k.val - 64 = k.val by omega)) (Fin.ext (show 128 + f.val - 64 - 64 = f.val by omega))

/-- The output gate's weights for the inputs. -/
theorem wt_xo (a : Fin 3) (f k : Fin 64) :
    wt m c (ix3 a (⟨192 + f.val, by omega⟩ : Fin 256) (⟨k.val, by omega⟩ : Fin 128)) = (args m c).Wxo (ix3 a k f) := by
  rw [wt_read, dif_pos (show k.val < 64 by omega), dif_neg (show ¬192 + f.val < 64 by omega), dif_neg (show ¬192 + f.val - 64 < 64 by omega), dif_neg (show ¬192 + f.val - 64 - 64 < 64 by omega)]
  exact congrArg₂ (fun u v => (args m c).Wxo (ix3 a u v)) (Fin.ext (show k.val = k.val by omega)) (Fin.ext (show 192 + f.val - 64 - 64 - 64 = f.val by omega))

/-- The output gate's weights for the old output. -/
theorem wt_ho (a : Fin 3) (f k : Fin 64) :
    wt m c (ix3 a (⟨192 + f.val, by omega⟩ : Fin 256) (⟨64 + k.val, by omega⟩ : Fin 128)) = (args m c).Who (ix3 a k f) := by
  rw [wt_read, dif_neg (show ¬64 + k.val < 64 by omega), dif_neg (show ¬192 + f.val < 64 by omega), dif_neg (show ¬192 + f.val - 64 < 64 by omega), dif_neg (show ¬192 + f.val - 64 - 64 < 64 by omega)]
  exact congrArg₂ (fun u v => (args m c).Who (ix3 a u v)) (Fin.ext (show 64 + k.val - 64 = k.val by omega)) (Fin.ext (show 192 + f.val - 64 - 64 - 64 = f.val by omega))

/-- The host's operations in two parts: the sums of the biases are the last of the first part. -/
theorem V_split (b : Ref sig .tc) :
    V m c b = StableHlo.after (hostOps0.drop 18) (StableHlo.after (hostOps0.take 18) (fun b => m (c, b))) b := by
  rw [← StableHlo.after_append, List.take_append_drop]

/-- The column of biases is four rows end to end. -/
theorem bias_rows (σ : Valuation τ sig (Elt Ideal)) (g : Fin 256) :
    (StableHlo.after (hostOps0.drop 18) σ (Proc.devRef .tc main_v19) : Vec Ideal S256x1 .f32) (ix2 g 0) =
      if h : g.val < 64 then (σ (Proc.devRef .tc main_v8) : Vec Ideal S1x64 .f32) (ix2 0 (⟨g.val, h⟩ : Fin 64))
      else if h : g.val - 64 < 64 then (σ (Proc.devRef .tc main_v11) : Vec Ideal S1x64 .f32) (ix2 0 (⟨g.val - 64, h⟩ : Fin 64))
      else if h : g.val - 64 - 64 < 64 then (σ (Proc.devRef .tc main_v14) : Vec Ideal S1x64 .f32) (ix2 0 (⟨g.val - 64 - 64, h⟩ : Fin 64))
      else (σ (Proc.devRef .tc main_v17) : Vec Ideal S1x64 .f32) (ix2 0 (⟨g.val - 64 - 64 - 64, by omega⟩ : Fin 64)) := by
  simp only [hostOps0, List.drop_succ_cons, List.drop_zero]
  entry_read
  pointwise

/-- The input gate's row of biases. -/
theorem row_i (f : Fin 64) :
    (StableHlo.after (hostOps0.take 18) (fun b => m (c, b)) (Proc.devRef .tc main_v8) : Vec Ideal S1x64 .f32) (ix2 0 f)
      = ((args m c).bxi (ix1 f) + (args m c).bhi (ix1 f) + (args m c).bi (ix2 0 f) : EReal) := by
  simp only [hostOps0, List.take_succ_cons, List.take_zero]
  entry_read
  pointwise
  rfl

/-- The input gate's biases. -/
theorem bias_i (f : Fin 64) :
    bias m c (ix2 (⟨f.val, by omega⟩ : Fin 256) 0)
      = ((args m c).bxi (ix1 f) + (args m c).bhi (ix1 f) + (args m c).bi (ix2 0 f) : EReal) := by
  unfold bias
  rw [V_split]
  refine (bias_rows _ _).trans ?_
  rw [dif_pos (show f.val < 64 by omega)]
  refine Eq.trans ?_ (row_i m c f)
  exact congrArg (fun u => (StableHlo.after (hostOps0.take 18) (fun b => m (c, b)) (Proc.devRef .tc main_v8) : Vec Ideal S1x64 .f32) (ix2 0 u))
    (Fin.ext (show f.val = f.val by omega))

/-- The forget gate's row of biases. -/
theorem row_f (f : Fin 64) :
    (StableHlo.after (hostOps0.take 18) (fun b => m (c, b)) (Proc.devRef .tc main_v11) : Vec Ideal S1x64 .f32) (ix2 0 f)
      = ((args m c).bxf (ix1 f) + (args m c).bhf (ix1 f) + (args m c).bf (ix2 0 f) : EReal) := by
  simp only [hostOps0, List.take_succ_cons, List.take_zero]
  entry_read
  pointwise
  rfl

/-- The forget gate's biases. -/
theorem bias_f (f : Fin 64) :
    bias m c (ix2 (⟨64 + f.val, by omega⟩ : Fin 256) 0)
      = ((args m c).bxf (ix1 f) + (args m c).bhf (ix1 f) + (args m c).bf (ix2 0 f) : EReal) := by
  unfold bias
  rw [V_split]
  refine (bias_rows _ _).trans ?_
  rw [dif_neg (show ¬64 + f.val < 64 by omega), dif_pos (show 64 + f.val - 64 < 64 by omega)]
  refine Eq.trans ?_ (row_f m c f)
  exact congrArg (fun u => (StableHlo.after (hostOps0.take 18) (fun b => m (c, b)) (Proc.devRef .tc main_v11) : Vec Ideal S1x64 .f32) (ix2 0 u))
    (Fin.ext (show 64 + f.val - 64 = f.val by omega))

/-- The candidate gate's row of biases. -/
theorem row_c (f : Fin 64) :
    (StableHlo.after (hostOps0.take 18) (fun b => m (c, b)) (Proc.devRef .tc main_v14) : Vec Ideal S1x64 .f32) (ix2 0 f)
      = ((args m c).bxc (ix1 f) + (args m c).bhc (ix1 f) + (args m c).bc (ix2 0 f) : EReal) := by
  simp only [hostOps0, List.take_succ_cons, List.take_zero]
  entry_read
  pointwise
  rfl

/-- The candidate gate's biases. -/
theorem bias_c (f : Fin 64) :
    bias m c (ix2 (⟨128 + f.val, by omega⟩ : Fin 256) 0)
      = ((args m c).bxc (ix1 f) + (args m c).bhc (ix1 f) + (args m c).bc (ix2 0 f) : EReal) := by
  unfold bias
  rw [V_split]
  refine (bias_rows _ _).trans ?_
  rw [dif_neg (show ¬128 + f.val < 64 by omega), dif_neg (show ¬128 + f.val - 64 < 64 by omega), dif_pos (show 128 + f.val - 64 - 64 < 64 by omega)]
  refine Eq.trans ?_ (row_c m c f)
  exact congrArg (fun u => (StableHlo.after (hostOps0.take 18) (fun b => m (c, b)) (Proc.devRef .tc main_v14) : Vec Ideal S1x64 .f32) (ix2 0 u))
    (Fin.ext (show 128 + f.val - 64 - 64 = f.val by omega))

/-- The output gate's row of biases. -/
theorem row_o (f : Fin 64) :
    (StableHlo.after (hostOps0.take 18) (fun b => m (c, b)) (Proc.devRef .tc main_v17) : Vec Ideal S1x64 .f32) (ix2 0 f)
      = ((args m c).bxo (ix1 f) + (args m c).bho (ix1 f) + (args m c).bo (ix2 0 f) : EReal) := by
  simp only [hostOps0, List.take_succ_cons, List.take_zero]
  entry_read
  pointwise
  rfl

/-- The output gate's biases. -/
theorem bias_o (f : Fin 64) :
    bias m c (ix2 (⟨192 + f.val, by omega⟩ : Fin 256) 0)
      = ((args m c).bxo (ix1 f) + (args m c).bho (ix1 f) + (args m c).bo (ix2 0 f) : EReal) := by
  unfold bias
  rw [V_split]
  refine (bias_rows _ _).trans ?_
  rw [dif_neg (show ¬192 + f.val < 64 by omega), dif_neg (show ¬192 + f.val - 64 < 64 by omega), dif_neg (show ¬192 + f.val - 64 - 64 < 64 by omega)]
  refine Eq.trans ?_ (row_o m c f)
  exact congrArg (fun u => (StableHlo.after (hostOps0.take 18) (fun b => m (c, b)) (Proc.devRef .tc main_v17) : Vec Ideal S1x64 .f32) (ix2 0 u))
    (Fin.ext (show 192 + f.val - 64 - 64 - 64 = f.val by omega))

/-- The old state. -/
theorem ct_read (f : Fin 64) (n : Fin 4096) : ct m c (ix2 f n) = (args m c).C (ix2 n f) := by
  unfold ct
  entry_read
  pointwise
  rfl

/-- The input gate's weights for the state. -/
theorem peep_i (f : Fin 64) : (V m c main_v21 : Vec Ideal S64x1 .f32) (ix2 f 0) = (args m c).pi (ix2 0 f) := by
  entry_read
  pointwise
  rfl

/-- The forget gate's weights for the state. -/
theorem peep_f (f : Fin 64) : (V m c main_v22 : Vec Ideal S64x1 .f32) (ix2 f 0) = (args m c).pf (ix2 0 f) := by
  entry_read
  pointwise
  rfl

/-- The output gate's weights for the state. -/
theorem peep_o (f : Fin 64) : (V m c main_v23 : Vec Ideal S64x1 .f32) (ix2 f 0) = (args m c).po (ix2 0 f) := by
  entry_read
  pointwise
  rfl

/-! ## The blocks the kernel is given -/

/-- Which rows of the matrix the points of the first phase see. -/
theorem index_0 : ∀ t : Fin cfg0.N, t.val < 16 → (cfg0.win 0).index t = ![t.val, 0] := by decide +kernel
/-- Window 1 is its whole array. -/
theorem index_1 : ∀ t : Fin cfg0.N, (cfg0.win 1).index t = ![0, 0] := by decide +kernel
/-- Window 2 is its whole array. -/
theorem index_2 : ∀ t : Fin cfg0.N, (cfg0.win 2).index t = ![0, 0] := by decide +kernel
/-- Window 3 is its whole array. -/
theorem index_3 : ∀ t : Fin cfg0.N, (cfg0.win 3).index t = ![0, 0, 0] := by decide +kernel
/-- Window 4 is its whole array. -/
theorem index_4 : ∀ t : Fin cfg0.N, (cfg0.win 4).index t = ![0, 0] := by decide +kernel
/-- Window 5 is its whole array. -/
theorem index_5 : ∀ t : Fin cfg0.N, (cfg0.win 5).index t = ![0, 0] := by decide +kernel
/-- Window 6 is its whole array. -/
theorem index_6 : ∀ t : Fin cfg0.N, (cfg0.win 6).index t = ![0, 0] := by decide +kernel
/-- Window 7 is its whole array. -/
theorem index_7 : ∀ t : Fin cfg0.N, (cfg0.win 7).index t = ![0, 0] := by decide +kernel
/-- Which rows of its array window 8 is written back to. -/
theorem index_8 : ∀ t : Fin cfg0.N, 24 ≤ t.val → (cfg0.win 8).index t = ![t.val - 24, 0] := by decide +kernel
/-- Window 8 is written back in the last phase only. -/
theorem flush_8 : ∀ t : Fin cfg0.N, (cfg0.win 8).flush t = true → 24 ≤ t.val := by decide +kernel
/-- Which rows of its array window 9 is written back to. -/
theorem index_9 : ∀ t : Fin cfg0.N, 24 ≤ t.val → (cfg0.win 9).index t = ![t.val - 24, 0] := by decide +kernel
/-- Window 9 is written back in the last phase only. -/
theorem flush_9 : ∀ t : Fin cfg0.N, (cfg0.win 9).flush t = true → 24 ≤ t.val := by decide +kernel

/-- A block of the matrix. -/
theorem block_0 (t : Fin cfg0.N) (ht : t.val < 16) (r : Fin 256) (k : Fin 4096) :
    iblk m c 0 t (ix2 r k) = (args m c).L (ix2 (⟨256 * t.val + r.val, by omega⟩ : Fin 4096) k) := by
  show _ = m ((c.tc : Thread nD τ).loc main_arg1) (ix2 (⟨256 * t.val + r.val, by omega⟩ : Fin 4096) k)
  blk_ext [iblk, V, index_0 t ht]

/-- The features, whole. -/
theorem block_1 (t : Fin cfg0.N) : iblk m c 1 t = xh m c := by
  unfold xh
  funext y
  blk_ext [iblk, V, index_1 t]

/-- The old state, whole. -/
theorem block_2 (t : Fin cfg0.N) : iblk m c 2 t = ct m c := by
  unfold ct
  funext y
  blk_ext [iblk, V, index_2 t]

/-- The weights, whole. -/
theorem block_3 (t : Fin cfg0.N) : iblk m c 3 t = wt m c := by
  unfold wt
  funext y
  blk_ext [iblk, V, index_3 t]

/-- The biases, whole. -/
theorem block_4 (t : Fin cfg0.N) : iblk m c 4 t = bias m c := by
  unfold bias
  funext y
  blk_ext [iblk, V, index_4 t]

/-- The input gate's weights for the state, whole. -/
theorem block_5 (t : Fin cfg0.N) : iblk m c 5 t = V m c main_v21 := by
  skip
  funext y
  blk_ext [iblk, V, index_5 t]

/-- The forget gate's weights for the state, whole. -/
theorem block_6 (t : Fin cfg0.N) : iblk m c 6 t = V m c main_v22 := by
  skip
  funext y
  blk_ext [iblk, V, index_6 t]

/-- The output gate's weights for the state, whole. -/
theorem block_7 (t : Fin cfg0.N) : iblk m c 7 t = V m c main_v23 := by
  skip
  funext y
  blk_ext [iblk, V, index_7 t]

/-! ## The scratch, entry by entry -/

/-- The transposed matrix. -/
theorem matT_read (k n : Fin 4096) : matT m c (ix2 k n) = (args m c).L (ix2 n k) := by
  unfold matT
  pointwise [k0_pay2]
  refine (block_0 m c _ (by show n.val / 256 < 16; omega) _ _).trans ?_
  exact congrArg (fun u => (args m c).L (ix2 u k)) (Fin.ext (show 256 * (n.val / 256) + n.val % 256 = n.val by omega))

/-- The features. -/
theorem feat_read (k : Fin 128) (n : Fin 4096) : feat m c (ix2 k n) = xh m c (ix2 k n) := by
  unfold feat
  pointwise [k0_pay1]
  exact congrFun (block_1 m c _) _

/-- The first product: the graph applied to the features. -/
theorem prodT_read (k : Fin 128) (n : Fin 4096) :
    prodT m c (ix2 k n) = (∑ y : Fin 4096, xh m c (ix2 k y) * (args m c).L (ix2 n y) : EReal) := by
  unfold prodT
  pointwise [k0_pay3]
  refine Finset.sum_congr rfl fun y _ => congrArg₂ (· * ·) (feat_read m c k y) ?_
  refine (matT_read m c _ _).trans ?_
  exact congrArg (fun u => (args m c).L (ix2 u y)) (Fin.ext (show 512 * (n.val / 512) + n.val % 512 = n.val by omega))

/-- The node that row `i` of the block of point `t` is. -/
def node (t : Fin cfg0.N) (i : Fin 512) : Fin 4096 := ⟨512 * (t.val - 24) + i.val, by have := last_lt t; omega⟩

/-- The gates before the old state's share. -/
theorem gates_read (t : Fin cfg0.N) (g : Fin 256) (i : Fin 512) :
    gates m c t (ix2 g i) =
      (((∑ k : Fin 128, wt m c (ix3 0 g k) * xh m c (ix2 k (node t i)))
        + (∑ k : Fin 128, wt m c (ix3 1 g k) * ∑ y : Fin 4096, xh m c (ix2 k y) * (args m c).L (ix2 (node t i) y))
        + (∑ k : Fin 128, wt m c (ix3 2 g k)
            * (Cert.Cell.two * (∑ y : Fin 4096, (∑ z : Fin 4096, xh m c (ix2 k z) * (args m c).L (ix2 y z)) * (args m c).L (ix2 (node t i) y))
              - xh m c (ix2 k (node t i)))))
        + bias m c (ix2 g 0) : EReal) := by
  unfold gates
  rw [block_1, block_3, block_4]
  pointwise [k0_pay7]
  have hm : ∀ y : Fin 4096, cols (matT m c) (t.val - 24) (last_lt t) (ix2 y i) = (args m c).L (ix2 (node t i) y) := fun y => matT_read m c y (node t i)
  have hf : ∀ k : Fin 128, cols (feat m c) (t.val - 24) (last_lt t) (ix2 k i) = xh m c (ix2 k (node t i)) := fun k => feat_read m c k (node t i)
  have hx : ∀ k : Fin 128, cols (xh m c) (t.val - 24) (last_lt t) (ix2 k i) = xh m c (ix2 k (node t i)) := fun k => rfl
  have hp : ∀ k : Fin 128, cols (prodT m c) (t.val - 24) (last_lt t) (ix2 k i)
      = (∑ y : Fin 4096, xh m c (ix2 k y) * (args m c).L (ix2 (node t i) y) : EReal) := fun k => prodT_read m c k (node t i)
  simp only [hm, hf, hx, hp, prodT_read]
  rfl

/-- The input gate before the old state's share. -/
theorem gates_i (t : Fin cfg0.N) (f : Fin 64) (i : Fin 512) :
    gates m c t (ix2 (⟨f.val, by omega⟩ : Fin 256) i) =
      (Cert.Cell.conv (args m c).L (args m c).X (args m c).Wxi (node t i) f + Cert.Cell.conv (args m c).L (args m c).H (args m c).Whi (node t i) f
        + ((args m c).bxi (ix1 f) + (args m c).bhi (ix1 f) + (args m c).bi (ix2 0 f)) : EReal) := by
  rw [gates_read, bias_i, Cert.Cell.conv_stacked _ _ _ _ _ (node t i) f (xh m c) (wt m c) _ (xh_input m c) (xh_hidden m c)
    (fun a k => wt_xi m c a f k) (fun a k => wt_hi m c a f k)]

/-- The forget gate before the old state's share. -/
theorem gates_f (t : Fin cfg0.N) (f : Fin 64) (i : Fin 512) :
    gates m c t (ix2 (⟨64 + f.val, by omega⟩ : Fin 256) i) =
      (Cert.Cell.conv (args m c).L (args m c).X (args m c).Wxf (node t i) f + Cert.Cell.conv (args m c).L (args m c).H (args m c).Whf (node t i) f
        + ((args m c).bxf (ix1 f) + (args m c).bhf (ix1 f) + (args m c).bf (ix2 0 f)) : EReal) := by
  rw [gates_read, bias_f, Cert.Cell.conv_stacked _ _ _ _ _ (node t i) f (xh m c) (wt m c) _ (xh_input m c) (xh_hidden m c)
    (fun a k => wt_xf m c a f k) (fun a k => wt_hf m c a f k)]

/-- The candidate gate before the old state's share. -/
theorem gates_c (t : Fin cfg0.N) (f : Fin 64) (i : Fin 512) :
    gates m c t (ix2 (⟨128 + f.val, by omega⟩ : Fin 256) i) =
      (Cert.Cell.conv (args m c).L (args m c).X (args m c).Wxc (node t i) f + Cert.Cell.conv (args m c).L (args m c).H (args m c).Whc (node t i) f
        + ((args m c).bxc (ix1 f) + (args m c).bhc (ix1 f) + (args m c).bc (ix2 0 f)) : EReal) := by
  rw [gates_read, bias_c, Cert.Cell.conv_stacked _ _ _ _ _ (node t i) f (xh m c) (wt m c) _ (xh_input m c) (xh_hidden m c)
    (fun a k => wt_xc m c a f k) (fun a k => wt_hc m c a f k)]

/-- The output gate before the old state's share. -/
theorem gates_o (t : Fin cfg0.N) (f : Fin 64) (i : Fin 512) :
    gates m c t (ix2 (⟨192 + f.val, by omega⟩ : Fin 256) i) =
      (Cert.Cell.conv (args m c).L (args m c).X (args m c).Wxo (node t i) f + Cert.Cell.conv (args m c).L (args m c).H (args m c).Who (node t i) f
        + ((args m c).bxo (ix1 f) + (args m c).bho (ix1 f) + (args m c).bo (ix2 0 f)) : EReal) := by
  rw [gates_read, bias_o, Cert.Cell.conv_stacked _ _ _ _ _ (node t i) f (xh m c) (wt m c) _ (xh_input m c) (xh_hidden m c)
    (fun a k => wt_xo m c a f k) (fun a k => wt_ho m c a f k)]

/-! ## The blocks written -/

/-- The old state's columns. -/
theorem ct_cols (t : Fin cfg0.N) (f : Fin 64) (i : Fin 512) :
    cols (ct m c) (t.val - 24) (last_lt t) (ix2 f i) = (args m c).C (ix2 (node t i) f) := ct_read m c f (node t i)

/-- The new state in the transposed layout. -/
theorem cell_read (t : Fin cfg0.N) (f : Fin 64) (i : Fin 512) :
    k0_pay4 (gates m c t) (cols (ct m c) (t.val - 24) (last_lt t)) (V m c main_v21) (V m c main_v22) (ix2 f i)
      = Cert.Cell.state (args m c) (node t i) f := by
  pointwise [k0_pay4]
  rw [gates_i, gates_f, gates_c, ct_cols, peep_i, peep_f, Cert.Cell.gate_eq, Cert.Cell.gate_eq, Cert.Cell.gate_eq']
  rfl

/-- A block of the new state. -/
theorem cnBlock_read (t : Fin cfg0.N) (i : Fin 512) (f : Fin 64) :
    cnBlock m c t (ix2 i f) = Cert.Cell.state (args m c) (node t i) f := by
  unfold cnBlock
  rw [block_2, block_5, block_6]
  pointwise [k0_pay6]
  exact cell_read m c t f i

/-- A block of the new output. -/
theorem hnBlock_read (t : Fin cfg0.N) (i : Fin 512) (f : Fin 64) :
    hnBlock m c t (ix2 i f) = Cert.Cell.hidden (args m c) (node t i) f := by
  unfold hnBlock
  rw [block_2, block_5, block_6, block_7]
  pointwise [k0_pay5]
  rw [cell_read, gates_o, peep_o, Cert.Cell.gate_eq]
  rfl

/-! ## The results -/

/-- The array of the new output after the run. -/
theorem out_8 : (dats m 0 c).arrAt 8 cfg0.N = fun y : S4096x64.Idx => Cert.Cell.hidden (args m c) (y 0) (y 1) := by
  refine (dats m 0 c).arrAt_eq_of_covers 8 _ (by decide +kernel) fun t hf y => ?_
  have ht := flush_8 t hf
  rw [after_8]
  obtain ⟨i, f, rfl⟩ : ∃ (i : Fin 512) (f : Fin 64), y = ix2 i f := ⟨y 0, y 1, eq_ix2 y⟩
  refine (hnBlock_read m c t i f).trans ?_
  refine congrArg₂ (Cert.Cell.hidden (args m c)) (Fin.ext ?_) (Fin.ext ?_)
  · blk_simp [index_8 t ht, node]
    show 512 * (t.val - 24) + i.val = (t.val - 24) * 512 + i.val
    omega
  · blk_simp [index_8 t ht]

/-- The array of the new state after the run. -/
theorem out_9 : (dats m 0 c).arrAt 9 cfg0.N = fun y : S4096x64.Idx => Cert.Cell.state (args m c) (y 0) (y 1) := by
  refine (dats m 0 c).arrAt_eq_of_covers 9 _ (by decide +kernel) fun t hf y => ?_
  have ht := flush_9 t hf
  rw [after_9]
  obtain ⟨i, f, rfl⟩ : ∃ (i : Fin 512) (f : Fin 64), y = ix2 i f := ⟨y 0, y 1, eq_ix2 y⟩
  refine (cnBlock_read m c t i f).trans ?_
  refine congrArg₂ (Cert.Cell.state (args m c)) (Fin.ext ?_) (Fin.ext ?_)
  · blk_simp [index_9 t ht, node]
    show 512 * (t.val - 24) + i.val = (t.val - 24) * 512 + i.val
    omega
  · blk_simp [index_9 t ht]

/-- The kernel's run: its two results are the cell's, its arguments are kept. -/
theorem run :
    θ_run defs (onTc (τ := τ) (main (F := Ideal))) ⟨m, fun _ => 0, ρ⟩ fun r => ∀ c : Dev nD,
      r.2.mem ((c.tc : Thread nD τ).loc main_v24_0) = (fun y : S4096x64.Idx => Cert.Cell.hidden (args m c) (y 0) (y 1)) ∧
      r.2.mem ((c.tc : Thread nD τ).loc main_v24_1) = (fun y : S4096x64.Idx => Cert.Cell.state (args m c) (y 0) (y 1)) ∧
        r.2.mem ((c.tc : Thread nD τ).loc main_arg0) = m ((c.tc : Thread nD τ).loc main_arg0) ∧
        r.2.mem ((c.tc : Thread nD τ).loc main_arg1) = m ((c.tc : Thread nD τ).loc main_arg1) ∧
        r.2.mem ((c.tc : Thread nD τ).loc main_arg2) = m ((c.tc : Thread nD τ).loc main_arg2) ∧
        r.2.mem ((c.tc : Thread nD τ).loc main_arg3) = m ((c.tc : Thread nD τ).loc main_arg3) ∧
        r.2.mem ((c.tc : Thread nD τ).loc main_arg4) = m ((c.tc : Thread nD τ).loc main_arg4) ∧
        r.2.mem ((c.tc : Thread nD τ).loc main_arg5) = m ((c.tc : Thread nD τ).loc main_arg5) ∧
        r.2.mem ((c.tc : Thread nD τ).loc main_arg6) = m ((c.tc : Thread nD τ).loc main_arg6) ∧
        r.2.mem ((c.tc : Thread nD τ).loc main_arg7) = m ((c.tc : Thread nD τ).loc main_arg7) ∧
        r.2.mem ((c.tc : Thread nD τ).loc main_arg8) = m ((c.tc : Thread nD τ).loc main_arg8) ∧
        r.2.mem ((c.tc : Thread nD τ).loc main_arg9) = m ((c.tc : Thread nD τ).loc main_arg9) ∧
        r.2.mem ((c.tc : Thread nD τ).loc main_arg10) = m ((c.tc : Thread nD τ).loc main_arg10) ∧
        r.2.mem ((c.tc : Thread nD τ).loc main_arg11) = m ((c.tc : Thread nD τ).loc main_arg11) ∧
        r.2.mem ((c.tc : Thread nD τ).loc main_arg12) = m ((c.tc : Thread nD τ).loc main_arg12) ∧
        r.2.mem ((c.tc : Thread nD τ).loc main_arg13) = m ((c.tc : Thread nD τ).loc main_arg13) ∧
        r.2.mem ((c.tc : Thread nD τ).loc main_arg14) = m ((c.tc : Thread nD τ).loc main_arg14) ∧
        r.2.mem ((c.tc : Thread nD τ).loc main_arg15) = m ((c.tc : Thread nD τ).loc main_arg15) ∧
        r.2.mem ((c.tc : Thread nD τ).loc main_arg16) = m ((c.tc : Thread nD τ).loc main_arg16) ∧
        r.2.mem ((c.tc : Thread nD τ).loc main_arg17) = m ((c.tc : Thread nD τ).loc main_arg17) ∧
        r.2.mem ((c.tc : Thread nD τ).loc main_arg18) = m ((c.tc : Thread nD τ).loc main_arg18) ∧
        r.2.mem ((c.tc : Thread nD τ).loc main_arg19) = m ((c.tc : Thread nD τ).loc main_arg19) ∧
        r.2.mem ((c.tc : Thread nD τ).loc main_arg20) = m ((c.tc : Thread nD τ).loc main_arg20) ∧
        r.2.mem ((c.tc : Thread nD τ).loc main_arg21) = m ((c.tc : Thread nD τ).loc main_arg21) ∧
        r.2.mem ((c.tc : Thread nD τ).loc main_arg22) = m ((c.tc : Thread nD τ).loc main_arg22) ∧
        r.2.mem ((c.tc : Thread nD τ).loc main_arg23) = m ((c.tc : Thread nD τ).loc main_arg23) ∧
        r.2.mem ((c.tc : Thread nD τ).loc main_arg24) = m ((c.tc : Thread nD τ).loc main_arg24) ∧
        r.2.mem ((c.tc : Thread nD τ).loc main_arg25) = m ((c.tc : Thread nD τ).loc main_arg25) ∧
        r.2.mem ((c.tc : Thread nD τ).loc main_arg26) = m ((c.tc : Thread nD τ).loc main_arg26) := by
  exact (θ_run defs _ _).mono (fun r h c => ⟨((h.1 c).1 8).trans (out_8 m c), ((h.1 c).1 9).trans (out_9 m c), kept m r h.1 c⟩) (run_ends m ρ)

end Cert.KernelIdeal.Fused

end
-- ==== Proof.RefValue.lean ====
/- What the reference returns: the recurrent cell of its arguments, entry by entry. -/
module

public import proofs.«01_k».proof.Proof.Gen.ReferenceIdeal.Run
public import proofs.«01_k».proof.Proof.Cell
public import Idealize.ShloMosaic.Lib.Tactic.CleanTypes

@[expose] public section

set_option maxRecDepth 16384

noncomputable section

namespace Cert.ReferenceIdeal.Cell

open Idealize.ShloMosaic Idealize.ShloMosaic.TcCoe Idealize.SL.Sem Cert.ReferenceIdeal.Value
open Idealize.ShloMosaic.StableHlo (launchContents)

variable (m : (ℓ : Loc nD τ sig) → Buf (Elt Ideal) ℓ) (ρ : Dev nD → PrngReg)

/-- The arguments, by name. -/
def args (c : Dev nD) : Cert.Cell.Args where
  X := m ((c.tc : Thread nD τ).loc main_arg0)
  L := m ((c.tc : Thread nD τ).loc main_arg1)
  H := m ((c.tc : Thread nD τ).loc main_arg2)
  C := m ((c.tc : Thread nD τ).loc main_arg3)
  Wxi := m ((c.tc : Thread nD τ).loc main_arg4)
  bxi := m ((c.tc : Thread nD τ).loc main_arg5)
  Whi := m ((c.tc : Thread nD τ).loc main_arg6)
  bhi := m ((c.tc : Thread nD τ).loc main_arg7)
  Wxf := m ((c.tc : Thread nD τ).loc main_arg8)
  bxf := m ((c.tc : Thread nD τ).loc main_arg9)
  Whf := m ((c.tc : Thread nD τ).loc main_arg10)
  bhf := m ((c.tc : Thread nD τ).loc main_arg11)
  Wxc := m ((c.tc : Thread nD τ).loc main_arg12)
  bxc := m ((c.tc : Thread nD τ).loc main_arg13)
  Whc := m ((c.tc : Thread nD τ).loc main_arg14)
  bhc := m ((c.tc : Thread nD τ).loc main_arg15)
  Wxo := m ((c.tc : Thread nD τ).loc main_arg16)
  bxo := m ((c.tc : Thread nD τ).loc main_arg17)
  Who := m ((c.tc : Thread nD τ).loc main_arg18)
  bho := m ((c.tc : Thread nD τ).loc main_arg19)
  pi := m ((c.tc : Thread nD τ).loc main_arg20)
  pf := m ((c.tc : Thread nD τ).loc main_arg21)
  po := m ((c.tc : Thread nD τ).loc main_arg22)
  bi := m ((c.tc : Thread nD τ).loc main_arg23)
  bf := m ((c.tc : Thread nD τ).loc main_arg24)
  bc := m ((c.tc : Thread nD τ).loc main_arg25)
  bo := m ((c.tc : Thread nD τ).loc main_arg26)

/-- The second result is the new state. -/
theorem state_read (c : Dev nD) (n : Fin 4096) (f : Fin 64) :
    (res_main_v144 (launchContents m c) : Vec Ideal S4096x64 .f32) (ix2 n f) = Cert.Cell.state (args m c) n f := by
  unfold res_main_v144 res_main_v143 res_main_v53 res_main_v72 res_main_v103 res_main_v122 res_main_v3 res_main_v22
  clean_types
  pointwise
  rfl

/-- The reference's run: its two results are the cell's, its arguments are kept. -/
theorem run (ρ : Dev nD → PrngReg) :
    θ_run defs (onTc (τ := τ) (main (F := Ideal))) ⟨m, fun _ => 0, ρ⟩ fun r => ∀ c : Dev nD,
      r.2.mem ((c.tc : Thread nD τ).loc main_v196) = (fun y : S4096x64.Idx => Cert.Cell.hidden (args m c) (y 0) (y 1)) ∧
      r.2.mem ((c.tc : Thread nD τ).loc main_v144) = (fun y : S4096x64.Idx => Cert.Cell.state (args m c) (y 0) (y 1)) ∧
        r.2.mem ((c.tc : Thread nD τ).loc main_arg0) = m ((c.tc : Thread nD τ).loc main_arg0) ∧
        r.2.mem ((c.tc : Thread nD τ).loc main_arg1) = m ((c.tc : Thread nD τ).loc main_arg1) ∧
        r.2.mem ((c.tc : Thread nD τ).loc main_arg2) = m ((c.tc : Thread nD τ).loc main_arg2) ∧
        r.2.mem ((c.tc : Thread nD τ).loc main_arg3) = m ((c.tc : Thread nD τ).loc main_arg3) ∧
        r.2.mem ((c.tc : Thread nD τ).loc main_arg4) = m ((c.tc : Thread nD τ).loc main_arg4) ∧
        r.2.mem ((c.tc : Thread nD τ).loc main_arg5) = m ((c.tc : Thread nD τ).loc main_arg5) ∧
        r.2.mem ((c.tc : Thread nD τ).loc main_arg6) = m ((c.tc : Thread nD τ).loc main_arg6) ∧
        r.2.mem ((c.tc : Thread nD τ).loc main_arg7) = m ((c.tc : Thread nD τ).loc main_arg7) ∧
        r.2.mem ((c.tc : Thread nD τ).loc main_arg8) = m ((c.tc : Thread nD τ).loc main_arg8) ∧
        r.2.mem ((c.tc : Thread nD τ).loc main_arg9) = m ((c.tc : Thread nD τ).loc main_arg9) ∧
        r.2.mem ((c.tc : Thread nD τ).loc main_arg10) = m ((c.tc : Thread nD τ).loc main_arg10) ∧
        r.2.mem ((c.tc : Thread nD τ).loc main_arg11) = m ((c.tc : Thread nD τ).loc main_arg11) ∧
        r.2.mem ((c.tc : Thread nD τ).loc main_arg12) = m ((c.tc : Thread nD τ).loc main_arg12) ∧
        r.2.mem ((c.tc : Thread nD τ).loc main_arg13) = m ((c.tc : Thread nD τ).loc main_arg13) ∧
        r.2.mem ((c.tc : Thread nD τ).loc main_arg14) = m ((c.tc : Thread nD τ).loc main_arg14) ∧
        r.2.mem ((c.tc : Thread nD τ).loc main_arg15) = m ((c.tc : Thread nD τ).loc main_arg15) ∧
        r.2.mem ((c.tc : Thread nD τ).loc main_arg16) = m ((c.tc : Thread nD τ).loc main_arg16) ∧
        r.2.mem ((c.tc : Thread nD τ).loc main_arg17) = m ((c.tc : Thread nD τ).loc main_arg17) ∧
        r.2.mem ((c.tc : Thread nD τ).loc main_arg18) = m ((c.tc : Thread nD τ).loc main_arg18) ∧
        r.2.mem ((c.tc : Thread nD τ).loc main_arg19) = m ((c.tc : Thread nD τ).loc main_arg19) ∧
        r.2.mem ((c.tc : Thread nD τ).loc main_arg20) = m ((c.tc : Thread nD τ).loc main_arg20) ∧
        r.2.mem ((c.tc : Thread nD τ).loc main_arg21) = m ((c.tc : Thread nD τ).loc main_arg21) ∧
        r.2.mem ((c.tc : Thread nD τ).loc main_arg22) = m ((c.tc : Thread nD τ).loc main_arg22) ∧
        r.2.mem ((c.tc : Thread nD τ).loc main_arg23) = m ((c.tc : Thread nD τ).loc main_arg23) ∧
        r.2.mem ((c.tc : Thread nD τ).loc main_arg24) = m ((c.tc : Thread nD τ).loc main_arg24) ∧
        r.2.mem ((c.tc : Thread nD τ).loc main_arg25) = m ((c.tc : Thread nD τ).loc main_arg25) ∧
        r.2.mem ((c.tc : Thread nD τ).loc main_arg26) = m ((c.tc : Thread nD τ).loc main_arg26) := by
  refine (θ_run defs _ _).mono (fun r h c => ⟨(h c).1.trans ?_, (h c).2.1.trans ?_, (h c).2.2⟩) (Value.run m ρ)
  · funext y
    obtain ⟨n, f, rfl⟩ : ∃ (n : Fin 4096) (f : Fin 64), y = ix2 n f := ⟨y 0, y 1, eq_ix2 y⟩
    have e := state_read m c n f
    revert e
    generalize res_main_v144 (launchContents m c) = s
    intro e
    unfold res_main_v148 res_main_v167
    clean_types
    pointwise
    rw [e]
    rfl
  · funext y
    obtain ⟨n, f, rfl⟩ : ∃ (n : Fin 4096) (f : Fin 64), y = ix2 n f := ⟨y 0, y 1, eq_ix2 y⟩
    exact state_read m c n f

end Cert.ReferenceIdeal.Cell

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.KernelFrame
public import proofs.«01_k».proof.Proof.IdealValue
public import proofs.«01_k».proof.Proof.RefValue
public import Idealize.ShloMosaic.Adequacy
public import Idealize.ShloMosaic.Init

@[expose] public section

noncomputable section

namespace Cert.Proof

open Idealize.ShloMosaic Idealize.SL.Sem

/-- The reference ends with its arguments kept; it has no counters. -/
theorem reference_frame : Cert.quiescent_ReferenceIdeal (hReferenceIdeal := Cert.ReferenceIdeal.Gen.facts) := fun m ρ _ =>
  (θ_run Cert.ReferenceIdeal.defs _ _).mono (fun r h => ⟨fun c => (h c).2.2, sem_eq_zero_of_no_sems (by decide) r.2⟩)
    (Cert.ReferenceIdeal.Cell.run m ρ)

/-- Both programs return the cell of their arguments, which are the same. -/
theorem results_equal : Cert.algebraic_KernelIdeal_ReferenceIdeal (hKernelIdeal := Cert.KernelIdeal.Gen.facts)
    (hReferenceIdeal := Cert.ReferenceIdeal.Gen.facts) := by
  intro m ρ m' ρ' _ hagree
  have ha : ∀ c, Cert.ReferenceIdeal.Cell.args m' c = Cert.KernelIdeal.Fused.args m c := fun c => by
    obtain ⟨h0, h1, h2, h3, h4, h5, h6, h7, h8, h9, h10, h11, h12, h13, h14, h15, h16, h17, h18, h19, h20, h21, h22, h23, h24, h25, h26⟩ := hagree c
    unfold Cert.ReferenceIdeal.Cell.args Cert.KernelIdeal.Fused.args
    congr 1
  refine ⟨_, _, Cert.KernelIdeal.Fused.run m ρ, (θ_run Cert.ReferenceIdeal.defs _ _).mono (fun r h c => ?_) (Cert.ReferenceIdeal.Cell.run m' ρ')⟩
  have hc := h c
  rw [ha c] at hc
  exact hc

/-- The five claims. -/
theorem claim : Cert.Claim :=
  ⟨Cert.Kernel.Gen.facts, Cert.KernelIdeal.Gen.facts, Cert.ReferenceIdeal.Gen.facts,
    fun m ρ _ => Cert.Kernel.Safe.frame m ρ, fun m ρ _ => Cert.KernelIdeal.Fused.frame m ρ, reference_frame, trivial, results_equal⟩

end Cert.Proof

end
